-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_args.lean ====
abbrev S16384x4096 : Shape := ⟨2, ![16384, 4096]⟩
abbrev S16384x8192 : Shape := ⟨2, ![16384, 8192]⟩
abbrev S32x16x2 : Shape := ⟨3, ![32, 16, 2]⟩
abbrev S1x128 : Shape := ⟨2, ![1, 128]⟩
abbrev S1x256 : Shape := ⟨2, ![1, 256]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S32x16x2 : S_.BroadcastsInDim S32x16x2 (![] : Fin 0 → Fin S32x16x2.rank)
  reducesTo_S32x16x2_S_d0_1_2 : S32x16x2.ReducesTo [0, 1, 2] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_arg5 : FVec F S1x128 .f32) (main_arg6 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S16384x4096 .f32) (main_arg1 : FVec F S16384x8192 .f32) (main_arg2 : FVec F S32x16x2 .f32) (main_arg3 : FVec F S1x128 .f32) (main_arg4 : FVec F S1x128 .f32) (main_arg5 : FVec F S1x128 .f32) (main_arg6 : FVec F S1x128 .f32) (main_arg7 : FVec F S1x256 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  let main_v9 : FVec F S32x16x2 .f32 := Host.absf main_arg2
  let main_cst_2 : FVec F S_ .f32 := constant S_ .f32 0x7F800000#32
  let main_v10 : FVec F S32x16x2 .f32 := broadcastInDim S32x16x2 ![] bcast_S_S32x16x2 main_cst_2
  let main_v11 : IVec S32x16x2 1 := cmpf .olt main_v9 main_v10
  let main_c_3 : IVec S_ 1 := constantI S_ 1 1#1
  let main_v12 : IVec S_ 1 := (fun x v => Host.reduce IntOp.andi x v reducesTo_S32x16x2_S_d0_1_2 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_v13 main_v16
-- ==== Kernel.lean ====
abbrev S16384x4096 : Shape := ⟨2, ![16384, 4096]⟩
abbrev S16384x8192 : Shape := ⟨2, ![16384, 8192]⟩
abbrev S32x16x2 : Shape := ⟨3, ![32, 16, 2]⟩
abbrev S1x128 : Shape := ⟨2, ![1, 128]⟩
abbrev S1x256 : Shape := ⟨2, ![1, 256]⟩
abbrev S128 : Shape := ⟨1, ![128]⟩
abbrev S4x128 : Shape := ⟨2, ![4, 128]⟩
abbrev S_ : Shape := ⟨0, ![]⟩
abbrev S256 : Shape := ⟨1, ![256]⟩
abbrev S256x1 : Shape := ⟨2, ![256, 1]⟩
abbrev S256x16x2 : Shape := ⟨3, ![256, 16, 2]⟩
abbrev S1x16x2 : Shape := ⟨3, ![1, 16, 2]⟩
abbrev S16x2 : Shape := ⟨2, ![16, 2]⟩
abbrev S16x2x256 : Shape := ⟨3, ![16, 2, 256]⟩
abbrev S1x16x1x2x1x256 : Shape := ⟨6, ![1, 16, 1, 2, 1, 256]⟩
abbrev S1x16x1x2x129x256 : Shape := ⟨6, ![1, 16, 1, 2, 129, 256]⟩
abbrev S16x2x33024 : Shape := ⟨3, ![16, 2, 33024]⟩
abbrev S16x2x32896 : Shape := ⟨3, ![16, 2, 32896]⟩
abbrev S16x2x128x257 : Shape := ⟨4, ![16, 2, 128, 257]⟩
abbrev S16x2x128x128 : Shape := ⟨4, ![16, 2, 128, 128]⟩
abbrev S512 : Shape := ⟨1, ![512]⟩
abbrev S512x1 : Shape := ⟨2, ![512, 1]⟩
abbrev S1x512 : Shape := ⟨2, ![1, 512]⟩
abbrev S1x16x1x2x1x128x1x128 : Shape := ⟨8, ![1, 16, 1, 2, 1, 128, 1, 128]⟩
abbrev S1x16x1x2x4x128x4x128 : Shape := ⟨8, ![1, 16, 1, 2, 4, 128, 4, 128]⟩
abbrev S16x2x512x512 : Shape := ⟨4, ![16, 2, 512, 512]⟩
abbrev S512x512 : Shape := ⟨2, ![512, 512]⟩
abbrev S16x2x512x1024 : Shape := ⟨4, ![16, 2, 512, 1024]⟩
abbrev S512x256 : Shape := ⟨2, ![512, 256]⟩
abbrev S16384x256 : Shape := ⟨2, ![16384, 256]⟩
abbrev S1x2x512x1024 : Shape := ⟨4, ![1, 2, 512, 1024]⟩
abbrev S2x512x128 : Shape := ⟨3, ![2, 512, 128]⟩
abbrev S2x512x256 : Shape := ⟨3, ![2, 512, 256]⟩
abbrev S2x2x512x1024 : Shape := ⟨4, ![2, 2, 512, 1024]⟩
abbrev S2x2x512x128 : Shape := ⟨4, ![2, 2, 512, 128]⟩
abbrev S512x128 : Shape := ⟨2, ![512, 128]⟩
abbrev S1024x128 : Shape := ⟨2, ![1024, 128]⟩
abbrev S512x1024 : Shape := ⟨2, ![512, 1024]⟩
abbrev S1x1x512x1024 : Shape := ⟨4, ![1, 1, 512, 1024]⟩
abbrev S1x1x512x128 : Shape := ⟨4, ![1, 1, 512, 128]⟩
abbrev S1024x256 : Shape := ⟨2, ![1024, 256]⟩
abbrev S1x512x128 : Shape := ⟨3, ![1, 512, 128]⟩
abbrev S1x512x256 : Shape := ⟨3, ![1, 512, 256]⟩
abbrev S1x1x512x512 : Shape := ⟨4, ![1, 1, 512, 512]⟩
abbrev S1 : Shape := ⟨1, ![1]⟩
abbrev S1x1 : Shape := ⟨2, ![1, 1]⟩

abbrev nBuf : Space → Nat
  | .hbm => 168
  | .vmem => 14
  | .smem => 0
  | _ => 0

abbrev hbmTy0_0 (i : Nat) : BufTy := match i % 128 with
  | 0 => ⟨S16384x4096, .f32⟩
  | 1 => ⟨S16384x8192, .f32⟩
  | 2 => ⟨S32x16x2, .f32⟩
  | 3 => ⟨S1x128, .f32⟩
  | 4 => ⟨S1x128, .f32⟩
  | 5 => ⟨S1x128, .f32⟩
  | 6 => ⟨S1x128, .f32⟩
  | 7 => ⟨S1x256, .f32⟩
  | 8 => ⟨S128, .f32⟩
  | 9 => ⟨S128, .f32⟩
  | 10 => ⟨S128, .f32⟩
  | 11 => ⟨S128, .f32⟩
  | 12 => ⟨S1x128, .f32⟩
  | 13 => ⟨S1x128, .f32⟩
  | 14 => ⟨S1x128, .f32⟩
  | 15 => ⟨S1x128, .f32⟩
  | 16 => ⟨S4x128, .f32⟩
  | 17 => ⟨S_, .f32⟩
  | 18 => ⟨S_, .f32⟩
  | 19 => ⟨S_, .f32⟩
  | 20 => ⟨S_, .f32⟩
  | 21 => ⟨S_, .f32⟩
  | 22 => ⟨S16384x4096, .f32⟩
  | 23 => ⟨S16384x4096, .f32⟩
  | 24 => ⟨S16384x4096, .bf16⟩
  | 25 => ⟨S16384x8192, .bf16⟩
  | 26 => ⟨S256, .i32⟩
  | 27 => ⟨S_, .i32⟩
  | 28 => ⟨S256, .i32⟩
  | 29 => ⟨S256, .i32⟩
  | 30 => ⟨S256, .f32⟩
  | 31 => ⟨S_, .f32⟩
  | 32 => ⟨S256, .f32⟩
  | 33 => ⟨S256, .f32⟩
  | 34 => ⟨S256, .f32⟩
  | 35 => ⟨S_, .f32⟩
  | 36 => ⟨S256, .f32⟩
  | 37 => ⟨S256, .f32⟩
  | 38 => ⟨S_, .f32⟩
  | 39 => ⟨S256, .f32⟩
  | 40 => ⟨S256, .f32⟩
  | 41 => ⟨S256, .i32⟩
  | 42 => ⟨S_, .i32⟩
  | 43 => ⟨S256, .i32⟩
  | 44 => ⟨S256, .i32⟩
  | 45 => ⟨S_, .i32⟩
  | 46 => ⟨S256, .i32⟩
  | 47 => ⟨S256, .i32⟩
  | 48 => ⟨S_, .i32⟩
  | 49 => ⟨S256, .i32⟩
  | 50 => ⟨S256, .i1⟩
  | 51 => ⟨S256, .i32⟩
  | 52 => ⟨S_, .i32⟩
  | 53 => ⟨S256, .i32⟩
  | 54 => ⟨S256, .i1⟩
  | 55 => ⟨S_, .i32⟩
  | 56 => ⟨S256, .i32⟩
  | 57 => ⟨S256, .i32⟩
  | 58 => ⟨S256, .i32⟩
  | 59 => ⟨S256x1, .i32⟩
  | 60 => ⟨S256x16x2, .f32⟩
  | 61 => ⟨S1x16x2, .f32⟩
  | 62 => ⟨S16x2, .f32⟩
  | 63 => ⟨S1x16x2, .f32⟩
  | 64 => ⟨S256x16x2, .f32⟩
  | 65 => ⟨S256x16x2, .f32⟩
  | 66 => ⟨S_, .f32⟩
  | 67 => ⟨S_, .f32⟩
  | 68 => ⟨S256x16x2, .f32⟩
  | 69 => ⟨S256x16x2, .f32⟩
  | 70 => ⟨S16x2x256, .f32⟩
  | 71 => ⟨S1x16x1x2x1x256, .f32⟩
  | 72 => ⟨S1x16x1x2x129x256, .f32⟩
  | 73 => ⟨S16x2x33024, .f32⟩
  | 74 => ⟨S16x2x32896, .f32⟩
  | 75 => ⟨S16x2x128x257, .f32⟩
  | 76 => ⟨S16x2x128x128, .f32⟩
  | 77 => ⟨S16x2x128x128, .f32⟩
  | 78 => ⟨S16x2x128x128, .f32⟩
  | 79 => ⟨S16x2x128x128, .f32⟩
  | 80 => ⟨S512, .i32⟩
  | 81 => ⟨S512x1, .i32⟩
  | 82 => ⟨S512, .i32⟩
  | 83 => ⟨S1x512, .i32⟩
  | 84 => ⟨S_, .i32⟩
  | 85 => ⟨S_, .i32⟩
  | 86 => ⟨S512x1, .i32⟩
  | 87 => ⟨S512x1, .i32⟩
  | 88 => ⟨S512x1, .i32⟩
  | 89 => ⟨S_, .i32⟩
  | 90 => ⟨S512x1, .i32⟩
  | 91 => ⟨S512x1, .i1⟩
  | 92 => ⟨S512x1, .i32⟩
  | 93 => ⟨S512x1, .i32⟩
  | 94 => ⟨S_, .i32⟩
  | 95 => ⟨S512x1, .i32⟩
  | 96 => ⟨S512x1, .i1⟩
  | 97 => ⟨S512x1, .i1⟩
  | 98 => ⟨S_, .i32⟩
  | 99 => ⟨S512x1, .i32⟩
  | 100 => ⟨S512x1, .i32⟩
  | 101 => ⟨S512x1, .i32⟩
  | 102 => ⟨S_, .i32⟩
  | 103 => ⟨S_, .i32⟩
  | 104 => ⟨S1x512, .i32⟩
  | 105 => ⟨S1x512, .i32⟩
  | 106 => ⟨S1x512, .i32⟩
  | 107 => ⟨S_, .i32⟩
  | 108 => ⟨S1x512, .i32⟩
  | 109 => ⟨S1x512, .i1⟩
  | 110 => ⟨S1x512, .i32⟩
  | 111 => ⟨S1x512, .i32⟩
  | 112 => ⟨S_, .i32⟩
  | 113 => ⟨S1x512, .i32⟩
  | 114 => ⟨S1x512, .i1⟩
  | 115 => ⟨S1x512, .i1⟩
  | 116 => ⟨S_, .i32⟩
  | 117 => ⟨S1x512, .i32⟩
  | 118 => ⟨S1x512, .i32⟩
  | 119 => ⟨S1x512, .i32⟩
  | 120 => ⟨S1x16x1x2x1x128x1x128, .f32⟩
  | 121 => ⟨S1x16x1x2x4x128x4x128, .f32⟩
  | 122 => ⟨S16x2x512x512, .f32⟩
  | 123 => ⟨S1x16x1x2x1x128x1x128, .f32⟩
  | 124 => ⟨S1x16x1x2x4x128x4x128, .f32⟩
  | 125 => ⟨S16x2x512x512, .f32⟩
  | 126 => ⟨S512x512, .i32⟩
  | 127 => ⟨S512x512, .i32⟩
  | _ => ⟨S16384x4096, .f32⟩

abbrev hbmTy0_1 (i : Nat) : BufTy := match i % 128 with
  | 0 => ⟨S512x512, .i1⟩
  | 1 => ⟨S512x512, .i32⟩
  | 2 => ⟨S512x512, .i32⟩
  | 3 => ⟨S512x512, .i1⟩
  | 4 => ⟨S_, .i32⟩
  | 5 => ⟨S1x512, .i32⟩
  | 6 => ⟨S1x512, .i32⟩
  | 7 => ⟨S512x512, .i32⟩
  | 8 => ⟨S512x512, .i32⟩
  | 9 => ⟨S512x512, .i1⟩
  | 10 => ⟨S_, .f32⟩
  | 11 => ⟨S_, .f32⟩
  | 12 => ⟨S16x2x512x512, .i1⟩
  | 13 => ⟨S16x2x512x512, .f32⟩
  | 14 => ⟨S16x2x512x512, .f32⟩
  | 15 => ⟨S16x2x512x512, .i1⟩
  | 16 => ⟨S16x2x512x512, .f32⟩
  | 17 => ⟨S_, .f32⟩
  | 18 => ⟨S_, .f32⟩
  | 19 => ⟨S16x2x512x512, .i1⟩
  | 20 => ⟨S16x2x512x512, .f32⟩
  | 21 => ⟨S16x2x512x512, .f32⟩
  | 22 => ⟨S_, .i32⟩
  | 23 => ⟨S512x1, .i32⟩
  | 24 => ⟨S512x1, .i1⟩
  | 25 => ⟨S_, .i32⟩
  | 26 => ⟨S1x512, .i32⟩
  | 27 => ⟨S1x512, .i1⟩
  | 28 => ⟨S512x512, .i1⟩
  | 29 => ⟨S512x512, .i1⟩
  | 30 => ⟨S512x512, .i1⟩
  | 31 => ⟨S_, .f32⟩
  | 32 => ⟨S_, .f32⟩
  | 33 => ⟨S16x2x512x512, .i1⟩
  | 34 => ⟨S16x2x512x512, .f32⟩
  | 35 => ⟨S16x2x512x512, .f32⟩
  | 36 => ⟨S16x2x512x1024, .f32⟩
  | 37 => ⟨S256, .f32⟩
  | 38 => ⟨S1x256, .f32⟩
  | 39 => ⟨S16384x4096, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S1x2x512x1024, .f32⟩
  | .local _ .vmem, ⟨5, _⟩ => ⟨S4x128, .f32⟩
  | .local _ .vmem, ⟨6, _⟩ => ⟨S1x256, .f32⟩
  | .local _ .vmem, ⟨7, _⟩ => ⟨S512x256, .bf16⟩
  | .local _ .vmem, ⟨8, _⟩ => ⟨S512x256, .bf16⟩
  | .local _ .vmem, ⟨9, _⟩ => ⟨S2x512x128, .f32⟩
  | .local _ .vmem, ⟨10, _⟩ => ⟨S2x512x128, .f32⟩
  | .local _ .vmem, ⟨11, _⟩ => ⟨S2x512x256, .f32⟩
  | .local _ .vmem, ⟨12, _⟩ => ⟨S2x2x512x1024, .bf16⟩
  | .local _ .vmem, ⟨13, _⟩ => ⟨S2x2x512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_10 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_c : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_0 : Ref sig .tc := ⟨.hbm, 98, rfl⟩
abbrev main_call3_v12 : Ref sig .tc := ⟨.hbm, 99, rfl⟩
abbrev main_call3_v13 : Ref sig .tc := ⟨.hbm, 100, rfl⟩
abbrev main_v64 : Ref sig .tc := ⟨.hbm, 101, rfl⟩
abbrev main_c_11 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_c : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_0 : Ref sig .tc := ⟨.hbm, 116, rfl⟩
abbrev main_call4_v12 : Ref sig .tc := ⟨.hbm, 117, rfl⟩
abbrev main_call4_v13 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_12 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_13 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v83 : Ref sig .tc := ⟨.hbm, 142, rfl⟩
abbrev main_call6_v0 : Ref sig .tc := ⟨.hbm, 143, rfl⟩
abbrev main_v84 : Ref sig .tc := ⟨.hbm, 144, rfl⟩
abbrev main_cst_14 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_v85 : Ref sig .tc := ⟨.hbm, 149, rfl⟩
abbrev main_c_15 : Ref sig .tc := ⟨.hbm, 150, rfl⟩
abbrev main_v86 : Ref sig .tc := ⟨.hbm, 151, rfl⟩
abbrev main_v87 : Ref sig .tc := ⟨.hbm, 152, rfl⟩
abbrev main_c_16 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_cst_17 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 32], ![false, false]⟩

def k0_cond1 (i : grid0.Coords) : BitVec 1 :=
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_16 : BitVec 32 := 1#32
  let v31 : BitVec 1 := Scalar.cmpi .sge v30 c1_i32_16
  let v32 : BitVec 32 := Scalar.extui v31
  let c0_i32_17 : BitVec 32 := 0#32
  let v33 : BitVec 1 := Scalar.cmpi .ne v32 c0_i32_17
  v33

def k0_mult1 (i : grid0.Coords) : BitVec 32 :=
  let c2_i32_78 : BitVec 32 := 2#32
  let c0_i32_77 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_76 : BitVec 32 := 1#32
  let v142 : BitVec 32 := Scalar.subi v30 c1_i32_76
  let v143 : BitVec 32 := Scalar.minsi c0_i32_77 v142
  let v144 : BitVec 32 := Scalar.muli c2_i32_78 v143
  let c512_i32 : BitVec 32 := 512#32
  let v145 : BitVec 32 := Scalar.muli v144 c512_i32
  v145
def k0_off1 (i : grid0.Coords) : Fin 2 → Nat :=
  let c2_i32_78 : BitVec 32 := 2#32
  let c0_i32_77 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_76 : BitVec 32 := 1#32
  let v142 : BitVec 32 := Scalar.subi v30 c1_i32_76
  let v143 : BitVec 32 := Scalar.minsi c0_i32_77 v142
  let v144 : BitVec 32 := Scalar.muli c2_i32_78 v143
  let c512_i32 : BitVec 32 := 512#32
  let v145 : BitVec 32 := Scalar.muli v144 c512_i32
  let v146 : BitVec 32 := v145
  let v149 : Index := Scalar.indexCast v146
  let c0_81 : Index := 0#32
  ![v149.toNat, 0]
def k0_off2 (i : grid0.Coords) : Fin 2 → Nat :=
  let c2_i32_78 : BitVec 32 := 2#32
  let c0_i32_77 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_76 : BitVec 32 := 1#32
  let v142 : BitVec 32 := Scalar.subi v30 c1_i32_76
  let v143 : BitVec 32 := Scalar.minsi c0_i32_77 v142
  let v144 : BitVec 32 := Scalar.muli c2_i32_78 v143
  let c512_i32 : BitVec 32 := 512#32
  let v145 : BitVec 32 := Scalar.muli v144 c512_i32
  let v146 : BitVec 32 := v145
  let v155 : Index := Scalar.indexCast v146
  let c128_84 : Index := 128#32
  ![v155.toNat, 128]
@[reducible] def k0_t1_loop (i : grid0.Coords) : Scf.Loop 32 :=
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_28 : BitVec 32 := 1#32
  ⟨c0_i32_26, v55, c1_i32_28⟩
def k0_mult2 (i : grid0.Coords) (k0_t1 : Fin (k0_t1_loop i).trips) : BitVec 32 :=
  let c2_i32_77 : BitVec 32 := 2#32
  let c2_i32_76 : BitVec 32 := 2#32
  let c0_i32_26 : BitVec 32 := 0#32
  let c1_i32_28 : BitVec 32 := 1#32
  let arg14 : BitVec 32 := Scf.iv c0_i32_26 c1_i32_28 k0_t1
  let v142 : BitVec 32 := Scalar.muli c2_i32_76 arg14
  let v143 : BitVec 32 := Scalar.muli c2_i32_77 v142
  let c512_i32 : BitVec 32 := 512#32
  let v152 : BitVec 32 := Scalar.muli v143 c512_i32
  v152
def k0_off3 (i : grid0.Coords) (k0_t1 : Fin (k0_t1_loop i).trips) : Fin 2 → Nat :=
  let c2_i32_77 : BitVec 32 := 2#32
  let c2_i32_76 : BitVec 32 := 2#32
  let c0_i32_26 : BitVec 32 := 0#32
  let c1_i32_28 : BitVec 32 := 1#32
  let arg14 : BitVec 32 := Scf.iv c0_i32_26 c1_i32_28 k0_t1
  let v142 : BitVec 32 := Scalar.muli c2_i32_76 arg14
  let v143 : BitVec 32 := Scalar.muli c2_i32_77 v142
  let c512_i32 : BitVec 32 := 512#32
  let v152 : BitVec 32 := Scalar.muli v143 c512_i32
  let v153 : BitVec 32 := v152
  let v154 : Index := Scalar.indexCast v153
  let c0_94 : Index := 0#32
  ![v154.toNat, 0]
def k0_mult3 (i : grid0.Coords) (k0_t1 : Fin (k0_t1_loop i).trips) : BitVec 32 :=
  let c2_i32_144 : BitVec 32 := 2#32
  let c2_i32_141 : BitVec 32 := 2#32
  let c0_i32_26 : BitVec 32 := 0#32
  let c1_i32_28 : BitVec 32 := 1#32
  let arg14 : BitVec 32 := Scf.iv c0_i32_26 c1_i32_28 k0_t1
  let v281 : BitVec 32 := Scalar.muli c2_i32_141 arg14
  let c1_i32_142 : BitVec 32 := 1#32
  let v282 : BitVec 32 := Scalar.addi v281 c1_i32_142
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_143 : BitVec 32 := 1#32
  let v283 : BitVec 32 := Scalar.subi v30 c1_i32_143
  let v284 : BitVec 32 := Scalar.minsi v282 v283
  let v285 : BitVec 32 := Scalar.muli c2_i32_144 v284
  let c512_i32_145 : BitVec 32 := 512#32
  let v286 : BitVec 32 := Scalar.muli v285 c512_i32_145
  v286
def k0_off4 (i : grid0.Coords) (k0_t1 : Fin (k0_t1_loop i).trips) (c1_i32_142 : BitVec 32) : Fin 2 → Nat :=
  let c2_i32_144 : BitVec 32 := 2#32
  let c2_i32_141 : BitVec 32 := 2#32
  let c0_i32_26 : BitVec 32 := 0#32
  let c1_i32_28 : BitVec 32 := 1#32
  let arg14 : BitVec 32 := Scf.iv c0_i32_26 c1_i32_28 k0_t1
  let v281 : BitVec 32 := Scalar.muli c2_i32_141 arg14
  let v282 : BitVec 32 := Scalar.addi v281 c1_i32_142
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_143 : BitVec 32 := 1#32
  let v283 : BitVec 32 := Scalar.subi v30 c1_i32_143
  let v284 : BitVec 32 := Scalar.minsi v282 v283
  let v285 : BitVec 32 := Scalar.muli c2_i32_144 v284
  let c512_i32_145 : BitVec 32 := 512#32
  let v286 : BitVec 32 := Scalar.muli v285 c512_i32_145
  let v287 : BitVec 32 := v286
  let v290 : Index := Scalar.indexCast v287
  let c0_148 : Index := 0#32
  ![v290.toNat, 0]
def k0_off5 (i : grid0.Coords) (k0_t1 : Fin (k0_t1_loop i).trips) (c1_i32_142 : BitVec 32) : Fin 2 → Nat :=
  let c2_i32_144 : BitVec 32 := 2#32
  let c2_i32_141 : BitVec 32 := 2#32
  let c0_i32_26 : BitVec 32 := 0#32
  let c1_i32_28 : BitVec 32 := 1#32
  let arg14 : BitVec 32 := Scf.iv c0_i32_26 c1_i32_28 k0_t1
  let v281 : BitVec 32 := Scalar.muli c2_i32_141 arg14
  let v282 : BitVec 32 := Scalar.addi v281 c1_i32_142
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_143 : BitVec 32 := 1#32
  let v283 : BitVec 32 := Scalar.subi v30 c1_i32_143
  let v284 : BitVec 32 := Scalar.minsi v282 v283
  let v285 : BitVec 32 := Scalar.muli c2_i32_144 v284
  let c512_i32_145 : BitVec 32 := 512#32
  let v286 : BitVec 32 := Scalar.muli v285 c512_i32_145
  let v287 : BitVec 32 := v286
  let v296 : Index := Scalar.indexCast v287
  let c128_151 : Index := 128#32
  ![v296.toNat, 128]
def k0_mult4 (i : grid0.Coords) (k0_t1 : Fin (k0_t1_loop i).trips) : BitVec 32 :=
  let c2_i32_174 : BitVec 32 := 2#32
  let c2_i32_171 : BitVec 32 := 2#32
  let c0_i32_26 : BitVec 32 := 0#32
  let c1_i32_28 : BitVec 32 := 1#32
  let arg14 : BitVec 32 := Scf.iv c0_i32_26 c1_i32_28 k0_t1
  let v324 : BitVec 32 := Scalar.muli c2_i32_171 arg14
  let c2_i32_172 : BitVec 32 := 2#32
  let v325 : BitVec 32 := Scalar.addi v324 c2_i32_172
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_173 : BitVec 32 := 1#32
  let v326 : BitVec 32 := Scalar.subi v30 c1_i32_173
  let v327 : BitVec 32 := Scalar.minsi v325 v326
  let v328 : BitVec 32 := Scalar.muli c2_i32_174 v327
  let c512_i32_175 : BitVec 32 := 512#32
  let v329 : BitVec 32 := Scalar.muli v328 c512_i32_175
  v329
def k0_mult5 (i : grid0.Coords) (k0_t1 : Fin (k0_t1_loop i).trips) : BitVec 32 :=
  let c2_i32_204 : BitVec 32 := 2#32
  let c2_i32_202 : BitVec 32 := 2#32
  let c0_i32_26 : BitVec 32 := 0#32
  let c1_i32_28 : BitVec 32 := 1#32
  let arg14 : BitVec 32 := Scf.iv c0_i32_26 c1_i32_28 k0_t1
  let v367 : BitVec 32 := Scalar.muli c2_i32_202 arg14
  let c1_i32_203 : BitVec 32 := 1#32
  let v368 : BitVec 32 := Scalar.addi v367 c1_i32_203
  let v369 : BitVec 32 := Scalar.muli c2_i32_204 v368
  let c512_i32_221 : BitVec 32 := 512#32
  let v378 : BitVec 32 := Scalar.muli v369 c512_i32_221
  v378
def k0_off6 (i : grid0.Coords) (k0_t1 : Fin (k0_t1_loop i).trips) : Fin 2 → Nat :=
  let c2_i32_204 : BitVec 32 := 2#32
  let c2_i32_202 : BitVec 32 := 2#32
  let c0_i32_26 : BitVec 32 := 0#32
  let c1_i32_28 : BitVec 32 := 1#32
  let arg14 : BitVec 32 := Scf.iv c0_i32_26 c1_i32_28 k0_t1
  let v367 : BitVec 32 := Scalar.muli c2_i32_202 arg14
  let c1_i32_203 : BitVec 32 := 1#32
  let v368 : BitVec 32 := Scalar.addi v367 c1_i32_203
  let v369 : BitVec 32 := Scalar.muli c2_i32_204 v368
  let c512_i32_221 : BitVec 32 := 512#32
  let v378 : BitVec 32 := Scalar.muli v369 c512_i32_221
  let v379 : BitVec 32 := v378
  let v380 : Index := Scalar.indexCast v379
  let c0_222 : Index := 0#32
  ![v380.toNat, 0]
@[reducible] def k0_t2_loop (i : grid0.Coords) : Scf.Loop 32 :=
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let v52 : BitVec 32 := Scalar.addi c0_i32_26 v51
  let c1_i32_29 : BitVec 32 := 1#32
  ⟨v55, v52, c1_i32_29⟩
def k0_mult6 (i : grid0.Coords) (k0_t2 : Fin (k0_t2_loop i).trips) : BitVec 32 :=
  let c2_i32_77 : BitVec 32 := 2#32
  let c2_i32_76 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v142 : BitVec 32 := Scalar.muli c2_i32_76 arg14
  let v143 : BitVec 32 := Scalar.muli c2_i32_77 v142
  let c512_i32 : BitVec 32 := 512#32
  let v152 : BitVec 32 := Scalar.muli v143 c512_i32
  v152
def k0_off7 (i : grid0.Coords) (k0_t2 : Fin (k0_t2_loop i).trips) : Fin 2 → Nat :=
  let c2_i32_77 : BitVec 32 := 2#32
  let c2_i32_76 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v142 : BitVec 32 := Scalar.muli c2_i32_76 arg14
  let v143 : BitVec 32 := Scalar.muli c2_i32_77 v142
  let c512_i32 : BitVec 32 := 512#32
  let v152 : BitVec 32 := Scalar.muli v143 c512_i32
  let v153 : BitVec 32 := v152
  let v154 : Index := Scalar.indexCast v153
  let c0_94 : Index := 0#32
  ![v154.toNat, 0]
def k0_mult7 (i : grid0.Coords) (k0_t2 : Fin (k0_t2_loop i).trips) : BitVec 32 :=
  let c2_i32_144 : BitVec 32 := 2#32
  let c2_i32_141 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v281 : BitVec 32 := Scalar.muli c2_i32_141 arg14
  let c1_i32_142 : BitVec 32 := 1#32
  let v282 : BitVec 32 := Scalar.addi v281 c1_i32_142
  let c1_i32_143 : BitVec 32 := 1#32
  let v283 : BitVec 32 := Scalar.subi v30 c1_i32_143
  let v284 : BitVec 32 := Scalar.minsi v282 v283
  let v285 : BitVec 32 := Scalar.muli c2_i32_144 v284
  let c512_i32_145 : BitVec 32 := 512#32
  let v286 : BitVec 32 := Scalar.muli v285 c512_i32_145
  v286
def k0_off8 (i : grid0.Coords) (k0_t2 : Fin (k0_t2_loop i).trips) (c1_i32_142 : BitVec 32) : Fin 2 → Nat :=
  let c2_i32_144 : BitVec 32 := 2#32
  let c2_i32_141 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v281 : BitVec 32 := Scalar.muli c2_i32_141 arg14
  let v282 : BitVec 32 := Scalar.addi v281 c1_i32_142
  let c1_i32_143 : BitVec 32 := 1#32
  let v283 : BitVec 32 := Scalar.subi v30 c1_i32_143
  let v284 : BitVec 32 := Scalar.minsi v282 v283
  let v285 : BitVec 32 := Scalar.muli c2_i32_144 v284
  let c512_i32_145 : BitVec 32 := 512#32
  let v286 : BitVec 32 := Scalar.muli v285 c512_i32_145
  let v287 : BitVec 32 := v286
  let v290 : Index := Scalar.indexCast v287
  let c0_148 : Index := 0#32
  ![v290.toNat, 0]
def k0_off9 (i : grid0.Coords) (k0_t2 : Fin (k0_t2_loop i).trips) (c1_i32_142 : BitVec 32) : Fin 2 → Nat :=
  let c2_i32_144 : BitVec 32 := 2#32
  let c2_i32_141 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v281 : BitVec 32 := Scalar.muli c2_i32_141 arg14
  let v282 : BitVec 32 := Scalar.addi v281 c1_i32_142
  let c1_i32_143 : BitVec 32 := 1#32
  let v283 : BitVec 32 := Scalar.subi v30 c1_i32_143
  let v284 : BitVec 32 := Scalar.minsi v282 v283
  let v285 : BitVec 32 := Scalar.muli c2_i32_144 v284
  let c512_i32_145 : BitVec 32 := 512#32
  let v286 : BitVec 32 := Scalar.muli v285 c512_i32_145
  let v287 : BitVec 32 := v286
  let v296 : Index := Scalar.indexCast v287
  let c128_151 : Index := 128#32
  ![v296.toNat, 128]
def k0_mult8 (i : grid0.Coords) (k0_t2 : Fin (k0_t2_loop i).trips) : BitVec 32 :=
  let c2_i32_174 : BitVec 32 := 2#32
  let c2_i32_171 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v324 : BitVec 32 := Scalar.muli c2_i32_171 arg14
  let c2_i32_172 : BitVec 32 := 2#32
  let v325 : BitVec 32 := Scalar.addi v324 c2_i32_172
  let c1_i32_173 : BitVec 32 := 1#32
  let v326 : BitVec 32 := Scalar.subi v30 c1_i32_173
  let v327 : BitVec 32 := Scalar.minsi v325 v326
  let v328 : BitVec 32 := Scalar.muli c2_i32_174 v327
  let c512_i32_175 : BitVec 32 := 512#32
  let v329 : BitVec 32 := Scalar.muli v328 c512_i32_175
  v329
def k0_mult9 (i : grid0.Coords) (k0_t2 : Fin (k0_t2_loop i).trips) : BitVec 32 :=
  let c2_i32_204 : BitVec 32 := 2#32
  let c2_i32_202 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v367 : BitVec 32 := Scalar.muli c2_i32_202 arg14
  let c1_i32_203 : BitVec 32 := 1#32
  let v368 : BitVec 32 := Scalar.addi v367 c1_i32_203
  let v369 : BitVec 32 := Scalar.muli c2_i32_204 v368
  let c512_i32_221 : BitVec 32 := 512#32
  let v378 : BitVec 32 := Scalar.muli v369 c512_i32_221
  v378
def k0_off10 (i : grid0.Coords) (k0_t2 : Fin (k0_t2_loop i).trips) : Fin 2 → Nat :=
  let c2_i32_204 : BitVec 32 := 2#32
  let c2_i32_202 : BitVec 32 := 2#32
  let c0_i32_26 : BitVec 32 := 0#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c0_i32_19 : BitVec 32 := 0#32
  let v35 : BitVec 1 := Scalar.cmpi .sgt v30 c0_i32_19
  let v36 : BitVec 32 := Scalar.extui v35
  let c0_i32_20 : BitVec 32 := 0#32
  let v37 : BitVec 1 := Scalar.cmpi .slt v30 c0_i32_20
  let v38 : BitVec 32 := Scalar.extui v37
  let v39 : BitVec 32 := Scalar.subi v36 v38
  let c2_i32_18 : BitVec 32 := 2#32
  let c0_i32_21 : BitVec 32 := 0#32
  let v40 : BitVec 1 := Scalar.cmpi .sgt c2_i32_18 c0_i32_21
  let v41 : BitVec 32 := Scalar.extui v40
  let c0_i32_22 : BitVec 32 := 0#32
  let v42 : BitVec 1 := Scalar.cmpi .slt c2_i32_18 c0_i32_22
  let v43 : BitVec 32 := Scalar.extui v42
  let v44 : BitVec 32 := Scalar.subi v41 v43
  let v45 : BitVec 1 := Scalar.cmpi .ne v39 v44
  let v46 : BitVec 32 := Scalar.remsi v30 c2_i32_18
  let c0_i32_23 : BitVec 32 := 0#32
  let v47 : BitVec 1 := Scalar.cmpi .ne v46 c0_i32_23
  let v48 : BitVec 1 := Scalar.andi v45 v47
  let v34 : BitVec 32 := Scalar.divsi v30 c2_i32_18
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg14 : BitVec 32 := Scf.iv v55 c1_i32_29 k0_t2
  let v367 : BitVec 32 := Scalar.muli c2_i32_202 arg14
  let c1_i32_203 : BitVec 32 := 1#32
  let v368 : BitVec 32 := Scalar.addi v367 c1_i32_203
  let v369 : BitVec 32 := Scalar.muli c2_i32_204 v368
  let c512_i32_221 : BitVec 32 := 512#32
  let v378 : BitVec 32 := Scalar.muli v369 c512_i32_221
  let v379 : BitVec 32 := v378
  let v380 : Index := Scalar.indexCast v379
  let c0_222 : Index := 0#32
  ![v380.toNat, 0]
def k0_cond2 (i : grid0.Coords) : BitVec 1 :=
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v30 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c1_i32_36 : BitVec 32 := 1#32
  let v66 : BitVec 1 := Scalar.cmpi .eq v65 c1_i32_36
  let v67 : BitVec 32 := Scalar.extui v66
  let c0_i32_37 : BitVec 32 := 0#32
  let v68 : BitVec 1 := Scalar.cmpi .ne v67 c0_i32_37
  v68

def k0_mult10 (i : grid0.Coords) : BitVec 32 :=
  let c2_i32_77 : BitVec 32 := 2#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_76 : BitVec 32 := 1#32
  let v142 : BitVec 32 := Scalar.subi v30 c1_i32_76
  let v143 : BitVec 32 := Scalar.muli c2_i32_77 v142
  let c512_i32 : BitVec 32 := 512#32
  let v152 : BitVec 32 := Scalar.muli v143 c512_i32
  v152
def k0_off11 (i : grid0.Coords) : Fin 2 → Nat :=
  let c2_i32_77 : BitVec 32 := 2#32
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c0_i32_10 : BitVec 32 := 0#32
  let v15 : BitVec 1 := Scalar.cmpi .sgt v13 c0_i32_10
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c2_i32 : BitVec 32 := 2#32
  let c0_i32_12 : BitVec 32 := 0#32
  let v20 : BitVec 1 := Scalar.cmpi .sgt c2_i32 c0_i32_12
  let v21 : BitVec 32 := Scalar.extui v20
  let c0_i32_13 : BitVec 32 := 0#32
  let v22 : BitVec 1 := Scalar.cmpi .slt c2_i32 c0_i32_13
  let v23 : BitVec 32 := Scalar.extui v22
  let v24 : BitVec 32 := Scalar.subi v21 v23
  let v25 : BitVec 1 := Scalar.cmpi .ne v19 v24
  let v26 : BitVec 32 := Scalar.remsi v13 c2_i32
  let c0_i32_14 : BitVec 32 := 0#32
  let v27 : BitVec 1 := Scalar.cmpi .ne v26 c0_i32_14
  let v28 : BitVec 1 := Scalar.andi v25 v27
  let v14 : BitVec 32 := Scalar.divsi v13 c2_i32
  let c1_i32_15 : BitVec 32 := 1#32
  let v29 : BitVec 32 := Scalar.subi v14 c1_i32_15
  let v30 : BitVec 32 := Scalar.select v28 v29 v14
  let c1_i32_76 : BitVec 32 := 1#32
  let v142 : BitVec 32 := Scalar.subi v30 c1_i32_76
  let v143 : BitVec 32 := Scalar.muli c2_i32_77 v142
  let c512_i32 : BitVec 32 := 512#32
  let v152 : BitVec 32 := Scalar.muli v143 c512_i32
  let v153 : BitVec 32 := v152
  let v154 : Index := Scalar.indexCast v153
  let c0_94 : Index := 0#32
  ![v154.toNat, 0]
def k0_cond3 (i : grid0.Coords) : BitVec 1 :=
  let arg1 : BitVec 32 := BitVec.ofNat 32 (i 1).val
  let c1_i32 : BitVec 32 := 1#32
  let v12 : BitVec 32 := Scalar.subi arg1 c1_i32
  let c0_i32 : BitVec 32 := 0#32
  let v13 : BitVec 32 := Scalar.maxsi v12 c0_i32
  let c2_i32_38 : BitVec 32 := 2#32
  let c0_i32_39 : BitVec 32 := 0#32
  let v69 : BitVec 1 := Scalar.cmpi .eq c2_i32_38 c0_i32_39
  let c1_i32_40 : BitVec 32 := 1#32
  let v70 : BitVec 32 := Scalar.select v69 c1_i32_40 c2_i32_38
  let v71 : BitVec 32 := Scalar.remsi v13 v70
  let c0_i32_42 : BitVec 32 := 0#32
  let v73 : BitVec 1 := Scalar.cmpi .slt v71 c0_i32_42
  let c0_i32_43 : BitVec 32 := 0#32
  let v74 : BitVec 1 := Scalar.cmpi .slt v70 c0_i32_43
  let v75 : BitVec 1 := Scalar.xori v73 v74
  let c0_i32_41 : BitVec 32 := 0#32
  let v72 : BitVec 1 := Scalar.cmpi .ne v71 c0_i32_41
  let v76 : BitVec 1 := Scalar.andi v75 v72
  let v77 : BitVec 32 := Scalar.addi v71 v70
  let v78 : BitVec 32 := Scalar.select v76 v77 v71
  let c1_i32_44 : BitVec 32 := 1#32
  let v79 : BitVec 1 := Scalar.cmpi .eq v78 c1_i32_44
  let v80 : BitVec 32 := Scalar.extui v79
  let c0_i32_45 : BitVec 32 := 0#32
  let v81 : BitVec 1 := Scalar.cmpi .ne v80 c0_i32_45
  v81

def k0_mult11 (i : grid0.Coords) : BitVec 32 :=
  let arg1 : BitVec 32 := BitVec.ofNat 32 (i 1).val
  let c2_i32_76 : BitVec 32 := 2#32
  let v142 : BitVec 32 := Scalar.subi arg1 c2_i32_76
  let c512_i32 : BitVec 32 := 512#32
  let v143 : BitVec 32 := Scalar.muli v142 c512_i32
  v143
def k0_off12 (i : grid0.Coords) : Fin 2 → Nat :=
  let arg1 : BitVec 32 := BitVec.ofNat 32 (i 1).val
  let c2_i32_76 : BitVec 32 := 2#32
  let v142 : BitVec 32 := Scalar.subi arg1 c2_i32_76
  let c512_i32 : BitVec 32 := 512#32
  let v143 : BitVec 32 := Scalar.muli v142 c512_i32
  let v144 : BitVec 32 := v143
  let v147 : Index := Scalar.indexCast v144
  let c0_79 : Index := 0#32
  ![v147.toNat, 0]
def k0_off13 (i : grid0.Coords) : Fin 2 → Nat :=
  let arg1 : BitVec 32 := BitVec.ofNat 32 (i 1).val
  let c2_i32_76 : BitVec 32 := 2#32
  let v142 : BitVec 32 := Scalar.subi arg1 c2_i32_76
  let c512_i32 : BitVec 32 := 512#32
  let v143 : BitVec 32 := Scalar.muli v142 c512_i32
  let v144 : BitVec 32 := v143
  let v153 : Index := Scalar.indexCast v144
  let c128_82 : Index := 128#32
  ![v153.toNat, 128]
def k0_mult12 (i : grid0.Coords) : BitVec 32 :=
  let arg1 : BitVec 32 := BitVec.ofNat 32 (i 1).val
  let c2_i32_76 : BitVec 32 := 2#32
  let v142 : BitVec 32 := Scalar.subi arg1 c2_i32_76
  let c512_i32_86 : BitVec 32 := 512#32
  let v165 : BitVec 32 := Scalar.muli v142 c512_i32_86
  v165
def k0_off14 (i : grid0.Coords) : Fin 2 → Nat :=
  let arg1 : BitVec 32 := BitVec.ofNat 32 (i 1).val
  let c2_i32_76 : BitVec 32 := 2#32
  let v142 : BitVec 32 := Scalar.subi arg1 c2_i32_76
  let c512_i32_86 : BitVec 32 := 512#32
  let v165 : BitVec 32 := Scalar.muli v142 c512_i32_86
  let v166 : BitVec 32 := v165
  let v167 : Index := Scalar.indexCast v166
  let c0_87 : Index := 0#32
  ![v167.toNat, 0]
def k0_cond4 (i : grid0.Coords) : BitVec 1 :=
  let arg1 : BitVec 32 := BitVec.ofNat 32 (i 1).val
  let c0_i32_46 : BitVec 32 := 0#32
  let v82 : BitVec 1 := Scalar.cmpi .eq arg1 c0_i32_46
  let v83 : BitVec 32 := Scalar.extui v82
  let c0_i32_47 : BitVec 32 := 0#32
  let v84 : BitVec 1 := Scalar.cmpi .ne v83 c0_i32_47
  v84

def k0_mult13 (i : grid0.Coords) : BitVec 32 :=
  let arg1 : BitVec 32 := BitVec.ofNat 32 (i 1).val
  let c512_i32 : BitVec 32 := 512#32
  let v142 : BitVec 32 := Scalar.muli arg1 c512_i32
  v142
def k0_off15 (i : grid0.Coords) : Fin 2 → Nat :=
  let arg1 : BitVec 32 := BitVec.ofNat 32 (i 1).val
  let c512_i32 : BitVec 32 := 512#32
  let v142 : BitVec 32 := Scalar.muli arg1 c512_i32
  let v143 : BitVec 32 := v142
  let v146 : Index := Scalar.indexCast v143
  let c0_78 : Index := 0#32
  ![v146.toNat, 0]
def k0_off16 (i : grid0.Coords) : Fin 2 → Nat :=
  let arg1 : BitVec 32 := BitVec.ofNat 32 (i 1).val
  let c512_i32 : BitVec 32 := 512#32
  let v142 : BitVec 32 := Scalar.muli arg1 c512_i32
  let v143 : BitVec 32 := v142
  let v152 : Index := Scalar.indexCast v143
  let c128_81 : Index := 128#32
  ![v152.toNat, 128]
def k0_mult14 (i : grid0.Coords) : BitVec 32 :=
  let arg1 : BitVec 32 := BitVec.ofNat 32 (i 1).val
  let c512_i32_92 : BitVec 32 := 512#32
  let v170 : BitVec 32 := Scalar.muli arg1 c512_i32_92
  v170
def k0_off17 (i : grid0.Coords) : Fin 2 → Nat :=
  let arg1 : BitVec 32 := BitVec.ofNat 32 (i 1).val
  let c512_i32_92 : BitVec 32 := 512#32
  let v170 : BitVec 32 := Scalar.muli arg1 c512_i32_92
  let v171 : BitVec 32 := v170
  let v172 : Index := Scalar.indexCast v171
  let c0_93 : Index := 0#32
  ![v172.toNat, 0]
def k0_cond5 (i : grid0.Coords) : BitVec 1 :=
  let arg1 : BitVec 32 := BitVec.ofNat 32 (i 1).val
  let c1_i32_48 : BitVec 32 := 1#32
  let v85 : BitVec 1 := Scalar.cmpi .sge arg1 c1_i32_48
  let v86 : BitVec 32 := Scalar.extui v85
  let c0_i32_49 : BitVec 32 := 0#32
  let v87 : BitVec 1 := Scalar.cmpi .ne v86 c0_i32_49
  v87

def k0_mult15 (i : grid0.Coords) : BitVec 32 :=
  let arg1 : BitVec 32 := BitVec.ofNat 32 (i 1).val
  let c1_i32_76 : BitVec 32 := 1#32
  let v142 : BitVec 32 := Scalar.subi arg1 c1_i32_76
  let c512_i32 : BitVec 32 := 512#32
  let v143 : BitVec 32 := Scalar.muli v142 c512_i32
  v143
def k0_off18 (i : grid0.Coords) : Fin 2 → Nat :=
  let arg1 : BitVec 32 := BitVec.ofNat 32 (i 1).val
  let c1_i32_76 : BitVec 32 := 1#32
  let v142 : BitVec 32 := Scalar.subi arg1 c1_i32_76
  let c512_i32 : BitVec 32 := 512#32
  let v143 : BitVec 32 := Scalar.muli v142 c512_i32
  let v144 : BitVec 32 := v143
  let v147 : Index := Scalar.indexCast v144
  let c0_79 : Index := 0#32
  ![v147.toNat, 0]
def k0_off19 (i : grid0.Coords) : Fin 2 → Nat :=
  let arg1 : BitVec 32 := BitVec.ofNat 32 (i 1).val
  let c1_i32_76 : BitVec 32 := 1#32
  let v142 : BitVec 32 := Scalar.subi arg1 c1_i32_76
  let c512_i32 : BitVec 32 := 512#32
  let v143 : BitVec 32 := Scalar.muli v142 c512_i32
  let v144 : BitVec 32 := v143
  let v153 : Index := Scalar.indexCast v144
  let c128_82 : Index := 128#32
  ![v153.toNat, 128]
def k0_mult16 (i : grid0.Coords) : BitVec 32 :=
  let arg1 : BitVec 32 := BitVec.ofNat 32 (i 1).val
  let c1_i32_76 : BitVec 32 := 1#32
  let v142 : BitVec 32 := Scalar.subi arg1 c1_i32_76
  let c512_i32_94 : BitVec 32 := 512#32
  let v171 : BitVec 32 := Scalar.muli v142 c512_i32_94
  v171
def k0_off20 (i : grid0.Coords) : Fin 2 → Nat :=
  let arg1 : BitVec 32 := BitVec.ofNat 32 (i 1).val
  let c1_i32_76 : BitVec 32 := 1#32
  let v142 : BitVec 32 := Scalar.subi arg1 c1_i32_76
  let c512_i32_94 : BitVec 32 := 512#32
  let v171 : BitVec 32 := Scalar.muli v142 c512_i32_94
  let v172 : BitVec 32 := v171
  let v173 : Index := Scalar.indexCast v172
  let c0_95 : Index := 0#32
  ![v173.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x4096 : Shape := ⟨2, ![16384, 4096]⟩
abbrev S16384x8192 : Shape := ⟨2, ![16384, 8192]⟩
abbrev S32x16x2 : Shape := ⟨3, ![32, 16, 2]⟩
abbrev S1x128 : Shape := ⟨2, ![1, 128]⟩
abbrev S1x256 : Shape := ⟨2, ![1, 256]⟩
abbrev S16384x16x2x128 : Shape := ⟨4, ![16384, 16, 2, 128]⟩
abbrev S_ : Shape := ⟨0, ![]⟩
abbrev S16384x16x256 : Shape := ⟨3, ![16384, 16, 256]⟩
abbrev S128 : Shape := ⟨1, ![128]⟩
abbrev S16384 : Shape := ⟨1, ![16384]⟩
abbrev S16384x1 : Shape := ⟨2, ![16384, 1]⟩
abbrev S16384x16x2 : Shape := ⟨3, ![16384, 16, 2]⟩
abbrev S16x2x16384 : Shape := ⟨3, ![16, 2, 16384]⟩
abbrev S1x16384 : Shape := ⟨2, ![1, 16384]⟩
abbrev S16384x16384 : Shape := ⟨2, ![16384, 16384]⟩
abbrev S16x2x16384x16384 : Shape := ⟨4, ![16, 2, 16384, 16384]⟩
abbrev S16384x16384x1 : Shape := ⟨3, ![16384, 16384, 1]⟩
abbrev S16x2x16384x1 : Shape := ⟨4, ![16, 2, 16384, 1]⟩
abbrev S16x1x16384x16384 : Shape := ⟨4, ![16, 1, 16384, 16384]⟩
abbrev S16x16384x16384 : Shape := ⟨3, ![16, 16384, 16384]⟩
abbrev S16x256x16384 : Shape := ⟨3, ![16, 256, 16384]⟩
abbrev S16384x16 : Shape := ⟨2, ![16384, 16]⟩
abbrev S16384x16x1 : Shape := ⟨3, ![16384, 16, 1]⟩
abbrev S256 : Shape := ⟨1, ![256]⟩
abbrev S1x1x256 : Shape := ⟨3, ![1, 1, 256]⟩

abbrev nBuf : Space → Nat
  | .hbm => 142
  | .vmem => 0
  | .smem => 0
  | _ => 0

abbrev hbmTy0_0 (i : Nat) : BufTy := match i % 128 with
  | 0 => ⟨S16384x4096, .f32⟩
  | 1 => ⟨S16384x8192, .f32⟩
  | 2 => ⟨S32x16x2, .f32⟩
  | 3 => ⟨S1x128, .f32⟩
  | 4 => ⟨S1x128, .f32⟩
  | 5 => ⟨S1x128, .f32⟩
  | 6 => ⟨S1x128, .f32⟩
  | 7 => ⟨S1x256, .f32⟩
  | 8 => ⟨S16384x16x2x128, .f32⟩
  | 9 => ⟨S_, .f32⟩
  | 10 => ⟨S_, .f32⟩
  | 11 => ⟨S16384x16x2x128, .f32⟩
  | 12 => ⟨S16384x16x2x128, .f32⟩
  | 13 => ⟨S16384x4096, .f32⟩
  | 14 => ⟨S16384x16x2x128, .f32⟩
  | 15 => ⟨S16384x4096, .f32⟩
  | 16 => ⟨S16384x16x256, .f32⟩
  | 17 => ⟨S128, .f32⟩
  | 18 => ⟨S128, .f32⟩
  | 19 => ⟨S128, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S16384, .i32⟩
  | 33 => ⟨S_, .i32⟩
  | 34 => ⟨S16384, .i32⟩
  | 35 => ⟨S16384, .i32⟩
  | 36 => ⟨S16384, .f32⟩
  | 37 => ⟨S_, .f32⟩
  | 38 => ⟨S16384, .f32⟩
  | 39 => ⟨S16384, .f32⟩
  | 40 => ⟨S16384, .f32⟩
  | 41 => ⟨S_, .f32⟩
  | 42 => ⟨S16384, .f32⟩
  | 43 => ⟨S16384, .f32⟩
  | 44 => ⟨S_, .f32⟩
  | 45 => ⟨S16384, .f32⟩
  | 46 => ⟨S16384, .f32⟩
  | 47 => ⟨S16384, .i32⟩
  | 48 => ⟨S_, .i32⟩
  | 49 => ⟨S16384, .i32⟩
  | 50 => ⟨S16384, .i32⟩
  | 51 => ⟨S_, .i32⟩
  | 52 => ⟨S16384, .i32⟩
  | 53 => ⟨S16384, .i32⟩
  | 54 => ⟨S_, .i32⟩
  | 55 => ⟨S16384, .i32⟩
  | 56 => ⟨S16384, .i1⟩
  | 57 => ⟨S16384, .i32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S16384x16x2, .f32⟩
  | 67 => ⟨S16x2x16384, .f32⟩
  | 68 => ⟨S16384, .i32⟩
  | 69 => ⟨S16384x1, .i32⟩
  | 70 => ⟨S16384, .i32⟩
  | 71 => ⟨S1x16384, .i32⟩
  | 72 => ⟨S16384x16384, .i32⟩
  | 73 => ⟨S16384x16384, .i32⟩
  | 74 => ⟨S16384x16384, .i32⟩
  | 75 => ⟨S16x2x16384x16384, .f32⟩
  | 76 => ⟨S_, .i32⟩
  | 77 => ⟨S16384x16384, .i32⟩
  | 78 => ⟨S16384x16384, .i32⟩
  | 79 => ⟨S_, .i32⟩
  | 80 => ⟨S16384x16384, .i32⟩
  | 81 => ⟨S16384x16384, .i1⟩
  | 82 => ⟨S_, .i32⟩
  | 83 => ⟨S16384x16384, .i32⟩
  | 84 => ⟨S16384x16384, .i32⟩
  | 85 => ⟨S16384x16384, .i32⟩
  | 86 => ⟨S16384x16384x1, .i32⟩
  | 87 => ⟨S16x2x16384x16384, .f32⟩
  | 88 => ⟨S16x2x16384x16384, .f32⟩
  | 89 => ⟨S_, .i32⟩
  | 90 => ⟨S16384x16384, .i32⟩
  | 91 => ⟨S16384x16384, .i1⟩
  | 92 => ⟨S_, .f32⟩
  | 93 => ⟨S_, .f32⟩
  | 94 => ⟨S16x2x16384x16384, .i1⟩
  | 95 => ⟨S16x2x16384x16384, .f32⟩
  | 96 => ⟨S16x2x16384x16384, .f32⟩
  | 97 => ⟨S_, .f32⟩
  | 98 => ⟨S16x2x16384, .f32⟩
  | 99 => ⟨S_, .f32⟩
  | 100 => ⟨S16x2x16384, .f32⟩
  | 101 => ⟨S16x2x16384, .f32⟩
  | 102 => ⟨S16x2x16384x1, .f32⟩
  | 103 => ⟨S16x2x16384x16384, .f32⟩
  | 104 => ⟨S16x2x16384x16384, .f32⟩
  | 105 => ⟨S16x2x16384x16384, .f32⟩
  | 106 => ⟨S_, .f32⟩
  | 107 => ⟨S16x2x16384, .f32⟩
  | 108 => ⟨S16x2x16384x1, .f32⟩
  | 109 => ⟨S16x2x16384x16384, .f32⟩
  | 110 => ⟨S16x2x16384x16384, .f32⟩
  | 111 => ⟨S16x1x16384x16384, .f32⟩
  | 112 => ⟨S16x16384x16384, .f32⟩
  | 113 => ⟨S16x1x16384x16384, .f32⟩
  | 114 => ⟨S16x16384x16384, .f32⟩
  | 115 => ⟨S16x16384x16384, .f32⟩
  | 116 => ⟨S16x16384x16384, .f32⟩
  | 117 => ⟨S16x16384x16384, .f32⟩
  | 118 => ⟨S16x256x16384, .f32⟩
  | 119 => ⟨S16384x16x256, .f32⟩
  | 120 => ⟨S16384x16x256, .f32⟩
  | 121 => ⟨S_, .f32⟩
  | 122 => ⟨S16384x16, .f32⟩
  | 123 => ⟨S16384x16x1, .f32⟩
  | 124 => ⟨S_, .f32⟩
  | 125 => ⟨S16384x16x1, .f32⟩
  | 126 => ⟨S16384x16x1, .f32⟩
  | 127 => ⟨S_, .f32⟩
  | _ => ⟨S16384x4096, .f32⟩

abbrev hbmTy0_1 (i : Nat) : BufTy := match i % 128 with
  | 0 => ⟨S16384x16x1, .f32⟩
  | 1 => ⟨S16384x16x1, .f32⟩
  | 2 => ⟨S16384x16x1, .f32⟩
  | 3 => ⟨S16384x16x256, .f32⟩
  | 4 => ⟨S16384x16x256, .f32⟩
  | 5 => ⟨S256, .f32⟩
  | 6 => ⟨S1x1x256, .f32⟩
  | 7 => ⟨S16384x16x256, .f32⟩
  | 8 => ⟨S16384x16x256, .f32⟩
  | 9 => ⟨S_, .f32⟩
  | 10 => ⟨S16384x16x256, .f32⟩
  | 11 => ⟨S16384x16x256, .f32⟩
  | 12 => ⟨S16384x4096, .f32⟩
  | 13 => ⟨S16384x4096, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_19 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_cst_21 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_22 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== Kernel2.lean ====
abbrev S16384x4096 : Shape := ⟨2, ![16384, 4096]⟩
abbrev S1x4096x16384 : Shape := ⟨3, ![1, 4096, 16384]⟩
abbrev S16384x16384 : Shape := ⟨2, ![16384, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S1x4096x16384, .f32⟩
  | .hbm, ⟨2, _⟩ => ⟨S16384x4096, .bf16⟩
  | .hbm, ⟨3, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x4096 : Shape := ⟨2, ![16384, 4096]⟩
abbrev S1x4096x16384 : Shape := ⟨3, ![1, 4096, 16384]⟩
abbrev S4096x16384 : Shape := ⟨2, ![4096, 16384]⟩
abbrev S16384x16384 : Shape := ⟨2, ![16384, 16384]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x16384, .f32⟩
  | .hbm, ⟨2, _⟩ => ⟨S4096x16384, .f32⟩
  | .hbm, ⟨3, _⟩ => ⟨S16384x16384, .f32⟩
  | .hbm, ⟨4, _⟩ => ⟨S16384x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S16384x4096 : Shape := ⟨2, ![16384, 4096]⟩
abbrev S4096x8192 : Shape := ⟨2, ![4096, 8192]⟩
abbrev S16384x8192 : Shape := ⟨2, ![16384, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x8192, .f32⟩
  | .hbm, ⟨2, _⟩ => ⟨S16384x4096, .bf16⟩
  | .hbm, ⟨3, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x4096 : Shape := ⟨2, ![16384, 4096]⟩
abbrev S4096x8192 : Shape := ⟨2, ![4096, 8192]⟩
abbrev S16384x8192 : Shape := ⟨2, ![16384, 8192]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x8192, .f32⟩
  | .hbm, ⟨2, _⟩ => ⟨S16384x8192, .f32⟩
  | .hbm, ⟨3, _⟩ => ⟨S16384x8192, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S16384x4096 : Shape := ⟨2, ![16384, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S16384x4096, .f32⟩
  | .hbm, ⟨3, _⟩ => ⟨S16384x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x4096 : Shape := ⟨2, ![16384, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S16384x4096, .bf16⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S4096x4096, .f32⟩
  | .hbm, ⟨3, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Model.lean ====
/-
  The arithmetic of one query tile of the attention kernel, over any element operations `F`: what the kernel does
  between its loads and its stores, as plain functions of vectors. `Slabs` is what the kernel keeps of one of the two
  maps between two key spans (the running maximum, the running sum of weights, the running weighted sum of values);
  `absorb1024` and `absorb512` take one key span of that many keys into it; `scores1024` … are a span's scores.
-/
module

public import proofs.«01_k».proof.Proof.Gen.KernelIdeal.Skeleton

@[expose] public section

set_option maxRecDepth 16384

noncomputable section

namespace Cert.Attn

open Idealize.ShloMosaic Cert.KernelIdeal Cert.KernelIdeal.Gen

variable {F : FTy → Type} [FloatOps F]

/-- What is kept of one map: running maximum `m`, sum of weights `l` (both the same in all 128 lanes), weighted sum of values `acc`. -/
structure Slabs (F : FTy → Type) [FloatOps F] where
  m : Vec F S1x512x128 .f32
  l : Vec F S1x512x128 .f32
  acc : Vec F S1x512x256 .f32

/-- A slab without its leading axis of size one. -/
def flat (x : Vec F S1x512x128 .f32) : FVec F S512x128 .f32 := shapeCast S512x128 x shapeCasts_S1x512x128_S512x128

/-- The new running maximum, from the old one and the span's row maxima. -/
def nextMax (m : Vec F S1x512x128 .f32) (r : FVec F S512x128 .f32) : FVec F S512x128 .f32 := maximumf (flat m) r

/-- What the old sums are multiplied by. -/
def decay (m : Vec F S1x512x128 .f32) (r : FVec F S512x128 .f32) : FVec F S512x128 .f32 := exp2 (subf (flat m) (nextMax m r))

/-- The weights of 512 keys with scores `s` against the maximum `M`. -/
def weights (s : FVec F S512x512 .bf16) (M : FVec F S512x128 .f32) : FVec F S512x512 .bf16 :=
  exp2 (subf s (concatenate S512x512 1 [⟨S512x128, truncf .bf16 M bitsLt_bf16_f32⟩, ⟨S512x128, truncf .bf16 M bitsLt_bf16_f32⟩,
    ⟨S512x128, truncf .bf16 M bitsLt_bf16_f32⟩, ⟨S512x128, truncf .bf16 M bitsLt_bf16_f32⟩] concatenates_S512x128_S512x128_S512x128_S512x128_S512x512_d1))

/-- The four lane blocks of 512 weights added up. -/
def quad (p : FVec F S512x512 .bf16) : FVec F S512x128 .bf16 :=
  addf (addf (extractStridedSlice S512x128 ![0, 0] p slices_S512x512_o0_0_S512x128) (extractStridedSlice S512x128 ![0, 128] p slices_S512x512_o0_128_S512x128))
    (addf (extractStridedSlice S512x128 ![0, 256] p slices_S512x512_o0_256_S512x128) (extractStridedSlice S512x128 ![0, 384] p slices_S512x512_o0_384_S512x128))

def zero128 : FVec F S512x128 .f32 := broadcast S512x128 (Scalar.ofBits .f32 0x00000000#32)

def zero256 : FVec F S512x256 .f32 := broadcast S512x256 (Scalar.ofBits .f32 0x00000000#32)

/-- The row sums of a block of lanes. -/
def rowSum (x : FVec F S512x128 .f32) : FVec F S512x1 .f32 :=
  shapeCast S512x1 (multiReduction .add [1] S512 x 0x00000000#32 reduces_S512x128_S512 (.inl rfl) rfl) shapeCasts_S512_S512x1

/-- The sum of 512 weights of each row. -/
def mass512 (p : FVec F S512x512 .bf16) : FVec F S512x1 .f32 := rowSum (addf zero128 (extf .f32 (quad p) bitsLt_bf16_f32))

/-- The sum of 1024 weights of each row, in two halves. -/
def mass1024 (p p' : FVec F S512x512 .bf16) : FVec F S512x1 .f32 :=
  rowSum (addf (addf zero128 (extf .f32 (quad p) bitsLt_bf16_f32)) (extf .f32 (quad p') bitsLt_bf16_f32))

/-- 512 weights times 512 value rows. -/
def prod512 (p : FVec F S512x512 .bf16) (v : FVec F S512x256 .bf16) : FVec F S512x256 .f32 :=
  matmul dot_S512x512_S512x256_S512x256_1_0_0_1_n_n none p v (constant S512x256 .f32 0x00000000#32)

/-- The new sum of weights. -/
def newL (a : FVec F S512x128 .f32) (mass : FVec F S512x1 .f32) (l : Vec F S1x512x128 .f32) : Vec F S1x512x128 .f32 :=
  shapeCast S1x512x128 (addf (mulf a (flat l)) (broadcastTo S512x128 mass broadcasts_S512x1_S512x128)) shapeCasts_S512x128_S1x512x128

/-- The new weighted sum of values. -/
def newAcc (a : FVec F S512x128 .f32) (pv : FVec F S512x256 .f32) (acc : Vec F S1x512x256 .f32) : Vec F S1x512x256 .f32 :=
  shapeCast S1x512x256 (addf (mulf (shapeCast S512x256 acc shapeCasts_S1x512x256_S512x256)
    (concatenate S512x256 1 [⟨S512x128, a⟩, ⟨S512x128, a⟩] concatenates_S512x128_S512x128_S512x256_d1)) pv) shapeCasts_S512x256_S1x512x256

/-- The first and the second half of a span's scores. -/
def half0 (s : FVec F S512x1024 .bf16) : FVec F S512x512 .bf16 := extractStridedSlice S512x512 ![0, 0] s slices_S512x1024_o0_0_S512x512
def half1 (s : FVec F S512x1024 .bf16) : FVec F S512x512 .bf16 := extractStridedSlice S512x512 ![0, 512] s slices_S512x1024_o0_512_S512x512

/-- One span of 1024 keys with scores `s`, row maxima `r` and value rows `v` taken in. -/
def absorb1024 (st : Slabs F) (s : FVec F S512x1024 .bf16) (r : FVec F S512x128 .f32) (v : Vec F S1024x256 .bf16) : Slabs F where
  m := shapeCast S1x512x128 (nextMax st.m r) shapeCasts_S512x128_S1x512x128
  l := newL (decay st.m r) (mass1024 (weights (half0 s) (nextMax st.m r)) (weights (half1 s) (nextMax st.m r))) st.l
  acc := newAcc (decay st.m r)
    (addf (addf zero256 (prod512 (weights (half0 s) (nextMax st.m r))
        (extractStridedSlice S512x256 ![0, 0] (shapeCast S1024x256 v shapeCasts_S1024x256_S1024x256) slices_S1024x256_o0_0_S512x256)))
      (prod512 (weights (half1 s) (nextMax st.m r))
        (extractStridedSlice S512x256 ![512, 0] (shapeCast S1024x256 v shapeCasts_S1024x256_S1024x256) slices_S1024x256_o512_0_S512x256))) st.acc

/-- One span of 512 keys taken in. -/
def absorb512 (st : Slabs F) (s : FVec F S512x512 .bf16) (r : FVec F S512x128 .f32) (v : Vec F S512x256 .bf16) : Slabs F where
  m := shapeCast S1x512x128 (nextMax st.m r) shapeCasts_S512x128_S1x512x128
  l := newL (decay st.m r) (mass512 (weights s (nextMax st.m r))) st.l
  acc := newAcc (decay st.m r)
    (addf zero256 (prod512 (weights s (nextMax st.m r)) (shapeCast S512x256 v shapeCasts_S512x256_S512x256))) st.acc

/-- The products of 512 queries with 1024 keys. -/
def dots1024 (q : Vec F S512x128 .bf16) (k : Vec F S1024x128 .bf16) : FVec F S512x1024 .f32 :=
  matmul dot_S512x128_S1024x128_S512x1024_1_1_0_0_n_n none (shapeCast S512x128 q shapeCasts_S512x128_S512x128)
    (shapeCast S1024x128 k shapeCasts_S1024x128_S1024x128) (constant S512x1024 .f32 0x00000000#32)

/-- The products of 512 queries with 512 keys. -/
def dots512 (q k : Vec F S512x128 .bf16) : FVec F S512x512 .f32 :=
  matmul dot_S512x128_S512x128_S512x512_1_1_0_0_n_n none (shapeCast S512x128 q shapeCasts_S512x128_S512x128)
    (shapeCast S512x128 k shapeCasts_S512x128_S512x128) (constant S512x512 .f32 0x00000000#32)

/-- Scores of far keys (no bias) and of near keys (with bias). -/
def scores1024 (q : Vec F S512x128 .bf16) (k : Vec F S1024x128 .bf16) : FVec F S512x1024 .bf16 := truncf .bf16 (dots1024 q k) bitsLt_bf16_f32
def scores512 (q k : Vec F S512x128 .bf16) : FVec F S512x512 .bf16 := truncf .bf16 (dots512 q k) bitsLt_bf16_f32
def biased1024 (q : Vec F S512x128 .bf16) (k : Vec F S1024x128 .bf16) (b : Vec F S1x1x512x1024 .f32) : FVec F S512x1024 .bf16 :=
  truncf .bf16 (addf (dots1024 q k) (shapeCast S512x1024 b shapeCasts_S1x1x512x1024_S512x1024)) bitsLt_bf16_f32
def biased512 (q k : Vec F S512x128 .bf16) (b : Vec F S1x1x512x512 .f32) : FVec F S512x512 .bf16 :=
  truncf .bf16 (addf (dots512 q k) (shapeCast S512x512 b shapeCasts_S1x1x512x512_S512x512)) bitsLt_bf16_f32

/-- The row maxima of a span's scores, in one lane. -/
def top1024 (s : FVec F S512x1024 .bf16) : FVec F S512x1 .f32 :=
  extf .f32 (shapeCast S512x1 (multiReduction .maximumf [1] S512 s 0xFF80#16 reduces_S512x1024_S512 (.inr rfl) rfl) shapeCasts_S512_S512x1) bitsLt_bf16_f32
def top512 (s : FVec F S512x512 .bf16) : FVec F S512x1 .f32 :=
  extf .f32 (shapeCast S512x1 (multiReduction .maximumf [1] S512 s 0xFF80#16 reduces_S512x512_S512 (.inr rfl) rfl) shapeCasts_S512_S512x1) bitsLt_bf16_f32

/-- One lane spread over all 128. -/
def spread (x : FVec F S512x1 .f32) : FVec F S512x128 .f32 := broadcastTo S512x128 x broadcasts_S512x1_S512x128

/-- A span's scores and row maxima as they are stored for a later span's turn. -/
def storedScores (s : FVec F S512x1024 .bf16) : Vec F S1x1x512x1024 .bf16 := shapeCast S1x1x512x1024 s shapeCasts_S512x1024_S1x1x512x1024
def storedTop (s : FVec F S512x1024 .bf16) : Vec F S1x1x512x128 .f32 :=
  shapeCast S1x1x512x128 (spread (shapeCast S512x1 (top1024 s) shapeCasts_S512x1_S512x1)) shapeCasts_S512x128_S1x1x512x128

/-- A stored span taken in. -/
def absorbStored (st : Slabs F) (s : Vec F S1x1x512x1024 .bf16) (r : Vec F S1x1x512x128 .f32) (v : Vec F S1024x256 .bf16) : Slabs F :=
  absorb1024 st (shapeCast S512x1024 s shapeCasts_S1x1x512x1024_S512x1024) (shapeCast S512x128 r shapeCasts_S1x1x512x128_S512x128) v

end Cert.Attn
-- ==== Proof.Cells.lean ====
/-
  Loads after stores: a load at a box just stored reads the payload, and a load at a box that lies apart from the one
  just stored reads what the earlier stores left. The boxes' offsets are literals, so what a use asks for is decided.
-/
module

public import Idealize.ShloMosaic.Lib.VecWindow

@[expose] public section

noncomputable section

namespace Cert.Attn

open Idealize.ShloMosaic

variable {sig : RefSig} {κ : Kind} {sp : Space} {s : Shape} {e : EltTy} {Val : EltTy → Type}

/-- The load at the box just stored. -/
theorem load_hit (v : View sig κ sp s e) (f : v.ty.Contents Val) {off size : Fin s.rank → ℕ}
    (inb : ∀ a, off a + size a ≤ s.size a) (w : (Rect.unit off size inb).shape.Idx → Val e) (L : List (View.Piece Val s e)) :
    v.readAt Val (Rect.unit off size inb).toLoadRect (v.writes Val f (⟨Rect.unit off size inb, w⟩ :: L)) = w := by
  rw [View.readAt_unit v _ inb rfl inb, View.read_writes_cons_put v f inb w L rfl, VecWindow.window_put_same]

/-- The load at a box apart from the one just stored. -/
theorem load_miss (v : View sig κ sp s e) (f : v.ty.Contents Val) {off size off' size' : Fin s.rank → ℕ}
    (inb : ∀ a, off a + size a ≤ s.size a) (inb' : ∀ a, off' a + size' a ≤ s.size a)
    (w : (Rect.unit off size inb).shape.Idx → Val e) (L : List (View.Piece Val s e))
    (h : ∃ a, off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  obtain ⟨a, ha⟩ := h
  rw [View.readAt_unit v _ inb' rfl inb', View.read_writes_cons_put v f inb w L rfl, VecWindow.window_put_of_disjoint _ _ _ _ _ _ _ a ha,
    View.readAt_unit v _ inb' rfl inb']

variable [∀ e, Nonempty (Val e)]

/-- The same of a load stated over the stores alone: at the box just stored, and at a box apart from it. -/
theorem cov_hit (v : View sig κ sp s e) {off size : Fin s.rank → ℕ}
    (inb : ∀ a, off a + size a ≤ s.size a) (w : (Rect.unit off size inb).shape.Idx → Val e) (L : List (View.Piece Val s e)) :
    v.readCov (⟨Rect.unit off size inb, w⟩ :: L) (Rect.unit off size inb).toLoadRect = w :=
  load_hit v v.junk inb w L

theorem cov_miss (v : View sig κ sp s e) {off size off' size' : Fin s.rank → ℕ}
    (inb : ∀ a, off a + size a ≤ s.size a) (inb' : ∀ a, off' a + size' a ≤ s.size a)
    (w : (Rect.unit off size inb).shape.Idx → Val e) (L : List (View.Piece Val s e))
    (h : ∃ a, off' a + size' a ≤ off a ∨ off a + size a ≤ off' a) :
    v.readCov (⟨Rect.unit off size inb, w⟩ :: L) (Rect.unit off' size' inb').toLoadRect
      = v.readCov L (Rect.unit off' size' inb').toLoadRect :=
  load_miss v v.junk inb inb' w L h

end Cert.Attn
-- ==== Proof.Trip.lean ====
/-
  One trip of the pipelined loop over pairs of key spans, run once over any element operations: the state it leaves is
  `pairStep` of the state it finds.
-/
module

public import proofs.«01_k».proof.Proof.Gen.KernelIdeal.Frame
public import proofs.«01_k».proof.Proof.Model
public import proofs.«01_k».proof.Proof.Cells

set_option maxRecDepth 16384

@[expose] public section
noncomputable section

namespace Cert.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the kernel's scratch holds between spans: the two maps' sums, and slot 0's scores and row maxima of both maps. -/
structure Held (F : FTy → Type) [FloatOps F] where
  a : Slabs F
  b : Slabs F
  sa : Vec F S1x1x512x1024 .bf16
  sb : Vec F S1x1x512x1024 .bf16
  ra : Vec F S1x1x512x128 .f32
  rb : Vec F S1x1x512x128 .f32

/-- The state read off the scratch buffers. -/
def heldOf (arg9 : Memref sig .tc .vmem S2x512x128 .f32) (arg10 : Memref sig .tc .vmem S2x512x128 .f32) (arg11 : Memref sig .tc .vmem S2x512x256 .f32) (arg12 : Memref sig .tc .vmem S2x2x512x1024 .bf16) (arg13 : Memref sig .tc .vmem S2x2x512x128 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : Held F where
  a := ⟨arg9.view.readAt (Elt F) (Rect.unit (s := S2x512x128) ![0, 0, 0] S1x512x128.size inb_S2x512x128_S1x512x128_0_0_0).toLoadRect f9, arg10.view.readAt (Elt F) (Rect.unit (s := S2x512x128) ![0, 0, 0] S1x512x128.size inb_S2x512x128_S1x512x128_0_0_0).toLoadRect f10, arg11.view.readAt (Elt F) (Rect.unit (s := S2x512x256) ![0, 0, 0] S1x512x256.size inb_S2x512x256_S1x512x256_0_0_0).toLoadRect f11⟩
  b := ⟨arg9.view.readAt (Elt F) (Rect.unit (s := S2x512x128) ![1, 0, 0] S1x512x128.size inb_S2x512x128_S1x512x128_1_0_0).toLoadRect f9, arg10.view.readAt (Elt F) (Rect.unit (s := S2x512x128) ![1, 0, 0] S1x512x128.size inb_S2x512x128_S1x512x128_1_0_0).toLoadRect f10, arg11.view.readAt (Elt F) (Rect.unit (s := S2x512x256) ![1, 0, 0] S1x512x256.size inb_S2x512x256_S1x512x256_1_0_0).toLoadRect f11⟩
  sa := arg12.view.readAt (Elt F) (Rect.unit (s := S2x2x512x1024) ![0, 0, 0, 0] S1x1x512x1024.size inb_S2x2x512x1024_S1x1x512x1024_0_0_0_0).toLoadRect f12
  sb := arg12.view.readAt (Elt F) (Rect.unit (s := S2x2x512x1024) ![0, 1, 0, 0] S1x1x512x1024.size inb_S2x2x512x1024_S1x1x512x1024_0_1_0_0).toLoadRect f12
  ra := arg13.view.readAt (Elt F) (Rect.unit (s := S2x2x512x128) ![0, 0, 0, 0] S1x1x512x128.size inb_S2x2x512x128_S1x1x512x128_0_0_0_0).toLoadRect f13
  rb := arg13.view.readAt (Elt F) (Rect.unit (s := S2x2x512x128) ![0, 1, 0, 0] S1x1x512x128.size inb_S2x2x512x128_S1x1x512x128_0_1_0_0).toLoadRect f13

/-- The queries of the two maps. -/
def queriesA (X : S512x256.Idx → Elt F .bf16) : Vec F S512x128 .bf16 := View.ld (Val := Elt F) X (Rect.unit ![0, 0] S512x128.size inb_S512x256_S512x128_0_0)
def queriesB (X : S512x256.Idx → Elt F .bf16) : Vec F S512x128 .bf16 := View.ld (Val := Elt F) X (Rect.unit ![0, 128] S512x128.size inb_S512x256_S512x128_0_128)

/-- One trip: the stored span taken in, the next one scored, the one after it scored and stored, the next one taken in. -/
def pairStep (qa qb : Vec F S512x128 .bf16) (ka kb ka' kb' : Vec F S1024x128 .bf16) (v v' : Vec F S1024x256 .bf16) (h : Held F) : Held F where
  a := absorbStored (absorbStored h.a h.sa h.ra v) (storedScores (scores1024 qa ka)) (storedTop (scores1024 qa ka)) v'
  b := absorbStored (absorbStored h.b h.sb h.rb v) (storedScores (scores1024 qb kb)) (storedTop (scores1024 qb kb)) v'
  sa := storedScores (scores1024 qa ka')
  sb := storedScores (scores1024 qb kb')
  ra := storedTop (scores1024 qa ka')
  rb := storedTop (scores1024 qb kb')

theorem trip_run (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (v30 : BitVec 32) (v32 : BitVec 32) (k : Fin (k0_t1_loop i).trips) (E : Set ℕ) (f2 : BufTy.Contents (Elt F) arg2.view.ty) (f3 : BufTy.Contents (Elt F) arg3.view.ty) (f4 : BufTy.Contents (Elt F) arg4.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v30 v32 k PUnit.unit)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜heldOf arg9 arg10 arg11 arg12 arg13 f9' f10' f11' f12' f13' = pairStep (arg2.view.readAt (Elt F) (Rect.unit (s := S512x256) ![0, 0] S512x128.size inb_S512x256_S512x128_0_0).toLoadRect f2) (arg2.view.readAt (Elt F) (Rect.unit (s := S512x256) ![0, 128] S512x128.size inb_S512x256_S512x128_0_128).toLoadRect f2) (arg3.view.readAt (Elt F) (Rect.unit (s := S16384x256) (k0_off4 i k 1#32) S1024x128.size (k0_off4_inb i k 0)).toLoadRect f3) (arg3.view.readAt (Elt F) (Rect.unit (s := S16384x256) (k0_off5 i k 1#32) S1024x128.size (k0_off5_inb i k 0)).toLoadRect f3) (arg3.view.readAt (Elt F) (Rect.unit (s := S16384x256) (k0_off4 i k 2#32) S1024x128.size (k0_off4_inb i k 1)).toLoadRect f3) (arg3.view.readAt (Elt F) (Rect.unit (s := S16384x256) (k0_off5 i k 2#32) S1024x128.size (k0_off5_inb i k 1)).toLoadRect f3) (arg4.view.readAt (Elt F) (Rect.unit (s := S16384x256) (k0_off3 i k) S1024x256.size (k0_off3_inb i k)).toLoadRect f4) (arg4.view.readAt (Elt F) (Rect.unit (s := S16384x256) (k0_off6 i k) S1024x256.size (k0_off6_inb i k)).toLoadRect f4) (heldOf arg9 arg10 arg11 arg12 arg13 f9 f10 f11 f12 f13)⌝)) := by
  unfold k0_t1_body
  iintro ⟨HR2, HR3, HR4, H9, H10, H11, H12, H13⟩
  sl_exec
  sl_step
  isplitl [HR2]; · iexact HR2
  isplitl [HR3]; · iexact HR3
  isplitl [HR4]; · iexact HR4
  iexists _; iexists _; iexists _; iexists _; iexists _
  isplitl [H9]; · iexact H9
  isplitl [H10]; · iexact H10
  isplitl [H11]; · iexact H11
  isplitl [H12]; · iexact H12
  isplitl [H13]; · iexact H13
  ipureintro
  unfold heldOf pairStep absorbStored absorb1024
  sl_unfold_run_names
  simp (discharger := decide) only [load_hit, load_miss, cov_hit, cov_miss]
  rfl

end Cert.Attn
-- ==== Proof.Far.lean ====
/-
  The kernel's loop over pairs of far key spans, and what it starts from, run over any element operations.
-/
module

public import proofs.«01_k».proof.Proof.Trip

set_option maxRecDepth 16384

@[expose] public section
noncomputable section

namespace Cert.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The rows of a window's contents from a given offset: a span of keys of one map, or of values. -/
abbrev keys1024 (X : S16384x256.Idx → Elt F .bf16) (off : Fin 2 → ℕ) (h : ∀ d, off d + S1024x128.size d ≤ S16384x256.size d) : Vec F S1024x128 .bf16 :=
  View.ld (Val := Elt F) X (Rect.unit (s := S16384x256) off S1024x128.size h)
abbrev vals1024 (X : S16384x256.Idx → Elt F .bf16) (off : Fin 2 → ℕ) (h : ∀ d, off d + S1024x256.size d ≤ S16384x256.size d) : Vec F S1024x256 .bf16 :=
  View.ld (Val := Elt F) X (Rect.unit (s := S16384x256) off S1024x256.size h)
abbrev keys512 (X : S16384x256.Idx → Elt F .bf16) (off : Fin 2 → ℕ) (h : ∀ d, off d + S512x128.size d ≤ S16384x256.size d) : Vec F S512x128 .bf16 :=
  View.ld (Val := Elt F) X (Rect.unit (s := S16384x256) off S512x128.size h)
abbrev vals512 (X : S16384x256.Idx → Elt F .bf16) (off : Fin 2 → ℕ) (h : ∀ d, off d + S512x256.size d ≤ S16384x256.size d) : Vec F S512x256 .bf16 :=
  View.ld (Val := Elt F) X (Rect.unit (s := S16384x256) off S512x256.size h)

/-- The first far span scored and stored, before the loop. -/
def primed (i : grid0.Coords) (h : k0_cond1 i = 1#1) (X2 : S512x256.Idx → Elt F .bf16) (X3 : S16384x256.Idx → Elt F .bf16) (g : Held F) : Held F where
  a := g.a
  b := g.b
  sa := storedScores (scores1024 (queriesA X2) (keys1024 X3 (k0_off1 i) (k0_off1_inb i h)))
  sb := storedScores (scores1024 (queriesB X2) (keys1024 X3 (k0_off2 i) (k0_off2_inb i h)))
  ra := storedTop (scores1024 (queriesA X2) (keys1024 X3 (k0_off1 i) (k0_off1_inb i h)))
  rb := storedTop (scores1024 (queriesB X2) (keys1024 X3 (k0_off2 i) (k0_off2_inb i h)))

/-- One trip, from the windows' contents. -/
def tripStep (i : grid0.Coords) (X2 : S512x256.Idx → Elt F .bf16) (X3 X4 : S16384x256.Idx → Elt F .bf16) (k : Fin (k0_t1_loop i).trips) : Held F → Held F :=
  pairStep (queriesA X2) (queriesB X2) (keys1024 X3 (k0_off4 i k 1#32) (k0_off4_inb i k 0)) (keys1024 X3 (k0_off5 i k 1#32) (k0_off5_inb i k 0))
    (keys1024 X3 (k0_off4 i k 2#32) (k0_off4_inb i k 1)) (keys1024 X3 (k0_off5 i k 2#32) (k0_off5_inb i k 1))
    (vals1024 X4 (k0_off3 i k) (k0_off3_inb i k)) (vals1024 X4 (k0_off6 i k) (k0_off6_inb i k))

/-- The state before trip `n`. -/
def farLoop (i : grid0.Coords) (X2 : S512x256.Idx → Elt F .bf16) (X3 X4 : S16384x256.Idx → Elt F .bf16) (g : Held F) : ℕ → Held F
  | 0 => g
  | n + 1 => if h : n < (k0_t1_loop i).trips then tripStep i X2 X3 X4 ⟨n, h⟩ (farLoop i X2 X3 X4 g n) else farLoop i X2 X3 X4 g n

theorem farLoop_succ (i : grid0.Coords) (X2 : S512x256.Idx → Elt F .bf16) (X3 X4 : S16384x256.Idx → Elt F .bf16) (g : Held F) (k : Fin (k0_t1_loop i).trips) :
    farLoop i X2 X3 X4 g (k.val + 1) = tripStep i X2 X3 X4 k (farLoop i X2 X3 X4 g k.val) := by
  rw [farLoop, dif_pos k.isLt]

theorem far_run (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (v30 : BitVec 32) (v32 : BitVec 32) (E : Set ℕ) (f2 : BufTy.Contents (Elt F) arg2.view.ty) (f3 : BufTy.Contents (Elt F) arg3.view.ty) (f4 : BufTy.Contents (Elt F) arg4.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hc : k0_cond1 i = 1#1) (htr : (k0_t2_loop i).trips = 0) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part33 (F := F) i arg2 harg2 arg3 harg3 arg4 harg4 arg5 harg5 arg6 harg6 arg7 harg7 arg8 harg8 arg9 harg9 arg10 harg10 arg11 harg11 arg12 harg12 arg13 harg13 v30 v32)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ ⌜heldOf arg9 arg10 arg11 arg12 arg13 f9' f10' f11' f12' f13' = farLoop i (arg2.view.read (Elt F) f2) (arg3.view.read (Elt F) f3) (arg4.view.read (Elt F) f4) (primed i hc (arg2.view.read (Elt F) f2) (arg3.view.read (Elt F) f3) (heldOf arg9 arg10 arg11 arg12 arg13 f9 f10 f11 f12 f13)) (k0_t1_loop i).trips⌝)) := by
  rw [k0_part33_eq_skeleton]
  unfold k0_part33_skel
  iintro ⟨HR2, HR3, HR4, H9, H10, H11, H12, H13⟩
  sl_exec (disch := sl_exact hc)
  sl_for (fun n _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ ⌜heldOf arg9 arg10 arg11 arg12 arg13 f9' f10' f11' f12' f13' = farLoop i (arg2.view.read (Elt F) f2) (arg3.view.read (Elt F) f3) (arg4.view.read (Elt F) f4) (primed i hc (arg2.view.read (Elt F) f2) (arg3.view.read (Elt F) f3) (heldOf arg9 arg10 arg11 arg12 arg13 f9 f10 f11 f12 f13)) n⌝)) $$ [HR2 HR3 HR4 H9 H10 H11 H12 H13]
  · intro k acc
    istart
    iintro ⟨HR2, HR3, HR4, %g9, %g10, %g11, %g12, %g13, H9, H10, H11, H12, H13, %hg⟩
    iapply wp_wand_r
    isplitl [HR2 HR3 HR4 H9 H10 H11 H12 H13]
    · iapply (trip_run 𝒱 c bd i arg2 harg2 arg3 harg3 arg4 harg4 arg5 harg5 arg6 harg6 arg7 harg7 arg8 harg8 arg9 harg9 arg10 harg10 arg11 harg11 arg12 harg12 arg13 harg13 v30 v32 k E f2 f3 f4 g9 g10 g11 g12 g13)
      isplitl [HR2]; · iexact HR2
      isplitl [HR3]; · iexact HR3
      isplitl [HR4]; · iexact HR4
      isplitl [H9]; · iexact H9
      isplitl [H10]; · iexact H10
      isplitl [H11]; · iexact H11
      isplitl [H12]; · iexact H12
      iexact H13
    · iintro %r ⟨HR2, HR3, HR4, %g9', %g10', %g11', %g12', %g13', H9, H10, H11, H12, H13, %hg'⟩
      isplitl [HR2]; · iexact HR2
      isplitl [HR3]; · iexact HR3
      isplitl [HR4]; · iexact HR4
      iexists g9'; iexists g10'; iexists g11'; iexists g12'; iexists g13'
      isplitl [H9]; · iexact H9
      isplitl [H10]; · iexact H10
      isplitl [H11]; · iexact H11
      isplitl [H12]; · iexact H12
      isplitl [H13]; · iexact H13
      ipureintro
      rw [farLoop_succ, hg', hg]
      rfl
  · isplitl [HR2]; · iexact HR2
    isplitl [HR3]; · iexact HR3
    isplitl [HR4]; · iexact HR4
    iexists _; iexists _; iexists _; iexists _; iexists _
    isplitl [H9]; · iexact H9
    isplitl [H10]; · iexact H10
    isplitl [H11]; · iexact H11
    isplitl [H12]; · iexact H12
    isplitl [H13]; · iexact H13
    ipureintro
    unfold heldOf farLoop primed
    sl_unfold_run_names
    simp (discharger := decide) only [load_hit, load_miss, cov_hit, cov_miss]
    rfl
  · iintro %acc ⟨HR2, HR3, HR4, %g9, %g10, %g11, %g12, %g13, H9, H10, H11, H12, H13, %hg⟩
    sl_unfold_words
    sl_for0 htr
    sl_exec
    sl_step
    isplitl [HR2]; · iexact HR2
    isplitl [HR3]; · iexact HR3
    isplitl [HR4]; · iexact HR4
    iexists _; iexists _; iexists _; iexists _; iexists _
    isplitl [H9]; · iexact H9
    isplitl [H10]; · iexact H10
    isplitl [H11]; · iexact H11
    isplitl [H12]; · iexact H12
    isplitl [H13]; · iexact H13
    ipureintro
    exact hg

end Cert.Attn
-- ==== Proof.Tail.lean ====
/-
  The part of the kernel behind its loop (the odd far span, the odd far tile, the diagonal tile, the span with the bias),
  run over any element operations.
-/
module

public import proofs.«01_k».proof.Proof.Far

set_option maxRecDepth 16384

@[expose] public section
noncomputable section

namespace Cert.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The odd far span, stored before, taken in. -/
def oddSpan (i : grid0.Coords) (h : k0_cond2 i = 1#1) (X4 : S16384x256.Idx → Elt F .bf16) (g : Held F) : Held F where
  a := absorbStored g.a g.sa g.ra (vals1024 X4 (k0_off11 i) (k0_off11_inb i h))
  b := absorbStored g.b g.sb g.rb (vals1024 X4 (k0_off11 i) (k0_off11_inb i h))
  sa := g.sa
  sb := g.sb
  ra := g.ra
  rb := g.rb

/-- A map's sums with the 512 keys of scores `s` taken in, and with the 1024 keys of scores `s`. -/
def take512 (st : Slabs F) (s : FVec F S512x512 .bf16) (v : Vec F S512x256 .bf16) : Slabs F := absorb512 st s (spread (top512 s)) v
def take1024 (st : Slabs F) (s : FVec F S512x1024 .bf16) (v : Vec F S1024x256 .bf16) : Slabs F := absorb1024 st s (spread (top1024 s)) v

/-- The odd far tile taken in. -/
def oddTile (i : grid0.Coords) (h : k0_cond3 i = 1#1) (X2 : S512x256.Idx → Elt F .bf16) (X3 X4 : S16384x256.Idx → Elt F .bf16) (g : Held F) : Held F where
  a := take512 g.a (scores512 (queriesA X2) (keys512 X3 (k0_off12 i) (k0_off12_inb i h))) (vals512 X4 (k0_off14 i) (k0_off14_inb i h))
  b := take512 g.b (scores512 (queriesB X2) (keys512 X3 (k0_off13 i) (k0_off13_inb i h))) (vals512 X4 (k0_off14 i) (k0_off14_inb i h))
  sa := g.sa
  sb := g.sb
  ra := g.ra
  rb := g.rb

/-- The bias of the diagonal tile, and of the two tiles up to the diagonal, for either map. -/
def biasA512 (X5 : S1x2x512x1024.Idx → Elt F .f32) : Vec F S1x1x512x512 .f32 := View.ld (Val := Elt F) X5 (Rect.unit ![0, 0, 0, 512] S1x1x512x512.size inb_S1x2x512x1024_S1x1x512x512_0_0_0_512)
def biasB512 (X5 : S1x2x512x1024.Idx → Elt F .f32) : Vec F S1x1x512x512 .f32 := View.ld (Val := Elt F) X5 (Rect.unit ![0, 1, 0, 512] S1x1x512x512.size inb_S1x2x512x1024_S1x1x512x512_0_1_0_512)
def biasA1024 (X5 : S1x2x512x1024.Idx → Elt F .f32) : Vec F S1x1x512x1024 .f32 := View.ld (Val := Elt F) X5 (Rect.unit ![0, 0, 0, 0] S1x1x512x1024.size inb_S1x2x512x1024_S1x1x512x1024_0_0_0_0)
def biasB1024 (X5 : S1x2x512x1024.Idx → Elt F .f32) : Vec F S1x1x512x1024 .f32 := View.ld (Val := Elt F) X5 (Rect.unit ![0, 1, 0, 0] S1x1x512x1024.size inb_S1x2x512x1024_S1x1x512x1024_0_1_0_0)

/-- The diagonal tile taken in, for the first query tile. -/
def diagTile (i : grid0.Coords) (h : k0_cond4 i = 1#1) (X2 : S512x256.Idx → Elt F .bf16) (X3 X4 : S16384x256.Idx → Elt F .bf16) (X5 : S1x2x512x1024.Idx → Elt F .f32) (g : Held F) : Held F where
  a := take512 g.a (biased512 (queriesA X2) (keys512 X3 (k0_off15 i) (k0_off15_inb i h)) (biasA512 X5)) (vals512 X4 (k0_off17 i) (k0_off17_inb i h))
  b := take512 g.b (biased512 (queriesB X2) (keys512 X3 (k0_off16 i) (k0_off16_inb i h)) (biasB512 X5)) (vals512 X4 (k0_off17 i) (k0_off17_inb i h))
  sa := g.sa
  sb := g.sb
  ra := g.ra
  rb := g.rb

/-- The two tiles up to the diagonal taken in, for every other query tile. -/
def nearSpan (i : grid0.Coords) (h : k0_cond5 i = 1#1) (X2 : S512x256.Idx → Elt F .bf16) (X3 X4 : S16384x256.Idx → Elt F .bf16) (X5 : S1x2x512x1024.Idx → Elt F .f32) (g : Held F) : Held F where
  a := take1024 g.a (biased1024 (queriesA X2) (keys1024 X3 (k0_off18 i) (k0_off18_inb i h)) (biasA1024 X5)) (vals1024 X4 (k0_off20 i) (k0_off20_inb i h))
  b := take1024 g.b (biased1024 (queriesB X2) (keys1024 X3 (k0_off19 i) (k0_off19_inb i h)) (biasB1024 X5)) (vals1024 X4 (k0_off20 i) (k0_off20_inb i h))
  sa := g.sa
  sb := g.sb
  ra := g.ra
  rb := g.rb

/-- What the conditionals behind the loop make of the state. -/
def tail (i : grid0.Coords) (X2 : S512x256.Idx → Elt F .bf16) (X3 X4 : S16384x256.Idx → Elt F .bf16) (X5 : S1x2x512x1024.Idx → Elt F .f32) (g : Held F) : Held F :=
  let g1 := if h : k0_cond2 i = 1#1 then oddSpan i h X4 g else g
  let g2 := if h : k0_cond3 i = 1#1 then oddTile i h X2 X3 X4 g1 else g1
  if h : k0_cond4 i = 1#1 then diagTile i h X2 X3 X4 X5 g2 else
  if h : k0_cond5 i = 1#1 then nearSpan i h X2 X3 X4 X5 g2 else g2

theorem tail_run_first (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (arg1 : BitVec 32) (v13 : BitVec 32) (v30 : BitVec 32) (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hc2 : ¬ k0_cond2 i = 1#1) (hc3 : ¬ k0_cond3 i = 1#1) (hc4 : k0_cond4 i = 1#1) (hc5 : ¬ k0_cond5 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg1 v13 v30)
          (fun r => iprop(⌜r = k0_pay247 (arg6.view.readAt (Elt F) (Rect.unit (s := S4x128) ![0, 0] S4x128.size inb_S4x128_S4x128_0_0).toLoadRect f6)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜(heldOf arg9 arg10 arg11 arg12 arg13 f9' f10' f11' f12' f13').a = (tail i (arg2.view.read (Elt F) f2) (arg3.view.read (Elt F) f3) (arg4.view.read (Elt F) f4) (arg5.view.read (Elt F) f5) (heldOf arg9 arg10 arg11 arg12 arg13 f9 f10 f11 f12 f13)).a ∧ (heldOf arg9 arg10 arg11 arg12 arg13 f9' f10' f11' f12' f13').b = (tail i (arg2.view.read (Elt F) f2) (arg3.view.read (Elt F) f3) (arg4.view.read (Elt F) f4) (arg5.view.read (Elt F) f5) (heldOf arg9 arg10 arg11 arg12 arg13 f9 f10 f11 f12 f13)).b⌝)) := by
  rw [k0_part34_eq_skeleton]
  unfold k0_part34_skel
  iintro ⟨HR2, HR3, HR4, HR5, HR6, H9, H10, H11, H12, H13⟩
  sl_exec (disch := first | sl_exact hc2 | sl_exact hc3 | sl_exact hc4 | sl_exact hc5)
  sl_step
  isplitr
  · ipureintro; rfl
  isplitl [HR2]; · iexact HR2
  isplitl [HR3]; · iexact HR3
  isplitl [HR4]; · iexact HR4
  isplitl [HR5]; · iexact HR5
  isplitl [HR6]; · iexact HR6
  iexists _; iexists _; iexists _; iexists _; iexists _
  isplitl [H9]; · iexact H9
  isplitl [H10]; · iexact H10
  isplitl [H11]; · iexact H11
  isplitl [H12]; · iexact H12
  isplitl [H13]; · iexact H13
  ipureintro
  dsimp only [tail]
  rw [dif_neg hc2, dif_neg hc3, dif_pos hc4]
  unfold heldOf
  unfold diagTile take512 absorb512
  dsimp only
  sl_unfold_run_names
  simp (discharger := decide) only [load_hit, load_miss, cov_hit, cov_miss]
  exact ⟨rfl, rfl⟩

theorem tail_run_near (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (arg1 : BitVec 32) (v13 : BitVec 32) (v30 : BitVec 32) (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hc2 : ¬ k0_cond2 i = 1#1) (hc3 : ¬ k0_cond3 i = 1#1) (hc4 : ¬ k0_cond4 i = 1#1) (hc5 : k0_cond5 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg1 v13 v30)
          (fun r => iprop(⌜r = k0_pay247 (arg6.view.readAt (Elt F) (Rect.unit (s := S4x128) ![0, 0] S4x128.size inb_S4x128_S4x128_0_0).toLoadRect f6)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜(heldOf arg9 arg10 arg11 arg12 arg13 f9' f10' f11' f12' f13').a = (tail i (arg2.view.read (Elt F) f2) (arg3.view.read (Elt F) f3) (arg4.view.read (Elt F) f4) (arg5.view.read (Elt F) f5) (heldOf arg9 arg10 arg11 arg12 arg13 f9 f10 f11 f12 f13)).a ∧ (heldOf arg9 arg10 arg11 arg12 arg13 f9' f10' f11' f12' f13').b = (tail i (arg2.view.read (Elt F) f2) (arg3.view.read (Elt F) f3) (arg4.view.read (Elt F) f4) (arg5.view.read (Elt F) f5) (heldOf arg9 arg10 arg11 arg12 arg13 f9 f10 f11 f12 f13)).b⌝)) := by
  rw [k0_part34_eq_skeleton]
  unfold k0_part34_skel
  iintro ⟨HR2, HR3, HR4, HR5, HR6, H9, H10, H11, H12, H13⟩
  sl_exec (disch := first | sl_exact hc2 | sl_exact hc3 | sl_exact hc4 | sl_exact hc5)
  sl_step
  isplitr
  · ipureintro; rfl
  isplitl [HR2]; · iexact HR2
  isplitl [HR3]; · iexact HR3
  isplitl [HR4]; · iexact HR4
  isplitl [HR5]; · iexact HR5
  isplitl [HR6]; · iexact HR6
  iexists _; iexists _; iexists _; iexists _; iexists _
  isplitl [H9]; · iexact H9
  isplitl [H10]; · iexact H10
  isplitl [H11]; · iexact H11
  isplitl [H12]; · iexact H12
  isplitl [H13]; · iexact H13
  ipureintro
  dsimp only [tail]
  rw [dif_neg hc2, dif_neg hc3, dif_neg hc4, dif_pos hc5]
  unfold heldOf
  unfold nearSpan take1024 absorb1024
  dsimp only
  sl_unfold_run_names
  simp (discharger := decide) only [load_hit, load_miss, cov_hit, cov_miss]
  exact ⟨rfl, rfl⟩

theorem tail_run_span (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (arg1 : BitVec 32) (v13 : BitVec 32) (v30 : BitVec 32) (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hc2 : k0_cond2 i = 1#1) (hc3 : ¬ k0_cond3 i = 1#1) (hc4 : ¬ k0_cond4 i = 1#1) (hc5 : k0_cond5 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg1 v13 v30)
          (fun r => iprop(⌜r = k0_pay247 (arg6.view.readAt (Elt F) (Rect.unit (s := S4x128) ![0, 0] S4x128.size inb_S4x128_S4x128_0_0).toLoadRect f6)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜(heldOf arg9 arg10 arg11 arg12 arg13 f9' f10' f11' f12' f13').a = (tail i (arg2.view.read (Elt F) f2) (arg3.view.read (Elt F) f3) (arg4.view.read (Elt F) f4) (arg5.view.read (Elt F) f5) (heldOf arg9 arg10 arg11 arg12 arg13 f9 f10 f11 f12 f13)).a ∧ (heldOf arg9 arg10 arg11 arg12 arg13 f9' f10' f11' f12' f13').b = (tail i (arg2.view.read (Elt F) f2) (arg3.view.read (Elt F) f3) (arg4.view.read (Elt F) f4) (arg5.view.read (Elt F) f5) (heldOf arg9 arg10 arg11 arg12 arg13 f9 f10 f11 f12 f13)).b⌝)) := by
  rw [k0_part34_eq_skeleton]
  unfold k0_part34_skel
  iintro ⟨HR2, HR3, HR4, HR5, HR6, H9, H10, H11, H12, H13⟩
  sl_exec (disch := first | sl_exact hc2 | sl_exact hc3 | sl_exact hc4 | sl_exact hc5)
  sl_step
  isplitr
  · ipureintro; rfl
  isplitl [HR2]; · iexact HR2
  isplitl [HR3]; · iexact HR3
  isplitl [HR4]; · iexact HR4
  isplitl [HR5]; · iexact HR5
  isplitl [HR6]; · iexact HR6
  iexists _; iexists _; iexists _; iexists _; iexists _
  isplitl [H9]; · iexact H9
  isplitl [H10]; · iexact H10
  isplitl [H11]; · iexact H11
  isplitl [H12]; · iexact H12
  isplitl [H13]; · iexact H13
  ipureintro
  dsimp only [tail]
  rw [dif_pos hc2, dif_neg hc3, dif_neg hc4, dif_pos hc5]
  unfold heldOf
  unfold oddSpan nearSpan absorbStored take1024 absorb1024
  dsimp only
  sl_unfold_run_names
  simp (discharger := decide) only [load_hit, load_miss, cov_hit, cov_miss]
  exact ⟨rfl, rfl⟩

theorem tail_run_tile (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (arg1 : BitVec 32) (v13 : BitVec 32) (v30 : BitVec 32) (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hc2 : ¬ k0_cond2 i = 1#1) (hc3 : k0_cond3 i = 1#1) (hc4 : ¬ k0_cond4 i = 1#1) (hc5 : k0_cond5 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg1 v13 v30)
          (fun r => iprop(⌜r = k0_pay247 (arg6.view.readAt (Elt F) (Rect.unit (s := S4x128) ![0, 0] S4x128.size inb_S4x128_S4x128_0_0).toLoadRect f6)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜(heldOf arg9 arg10 arg11 arg12 arg13 f9' f10' f11' f12' f13').a = (tail i (arg2.view.read (Elt F) f2) (arg3.view.read (Elt F) f3) (arg4.view.read (Elt F) f4) (arg5.view.read (Elt F) f5) (heldOf arg9 arg10 arg11 arg12 arg13 f9 f10 f11 f12 f13)).a ∧ (heldOf arg9 arg10 arg11 arg12 arg13 f9' f10' f11' f12' f13').b = (tail i (arg2.view.read (Elt F) f2) (arg3.view.read (Elt F) f3) (arg4.view.read (Elt F) f4) (arg5.view.read (Elt F) f5) (heldOf arg9 arg10 arg11 arg12 arg13 f9 f10 f11 f12 f13)).b⌝)) := by
  rw [k0_part34_eq_skeleton]
  unfold k0_part34_skel
  iintro ⟨HR2, HR3, HR4, HR5, HR6, H9, H10, H11, H12, H13⟩
  sl_exec (disch := first | sl_exact hc2 | sl_exact hc3 | sl_exact hc4 | sl_exact hc5)
  sl_step
  isplitr
  · ipureintro; rfl
  isplitl [HR2]; · iexact HR2
  isplitl [HR3]; · iexact HR3
  isplitl [HR4]; · iexact HR4
  isplitl [HR5]; · iexact HR5
  isplitl [HR6]; · iexact HR6
  iexists _; iexists _; iexists _; iexists _; iexists _
  isplitl [H9]; · iexact H9
  isplitl [H10]; · iexact H10
  isplitl [H11]; · iexact H11
  isplitl [H12]; · iexact H12
  isplitl [H13]; · iexact H13
  ipureintro
  dsimp only [tail]
  rw [dif_neg hc2, dif_pos hc3, dif_neg hc4, dif_pos hc5]
  unfold heldOf
  unfold oddTile nearSpan take512 take1024 absorb1024 absorb512
  dsimp only
  sl_unfold_run_names
  simp (discharger := decide) only [load_hit, load_miss, cov_hit, cov_miss]
  exact ⟨rfl, rfl⟩

theorem tail_run_both (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (arg1 : BitVec 32) (v13 : BitVec 32) (v30 : BitVec 32) (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hc2 : k0_cond2 i = 1#1) (hc3 : k0_cond3 i = 1#1) (hc4 : ¬ k0_cond4 i = 1#1) (hc5 : k0_cond5 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg1 v13 v30)
          (fun r => iprop(⌜r = k0_pay247 (arg6.view.readAt (Elt F) (Rect.unit (s := S4x128) ![0, 0] S4x128.size inb_S4x128_S4x128_0_0).toLoadRect f6)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜(heldOf arg9 arg10 arg11 arg12 arg13 f9' f10' f11' f12' f13').a = (tail i (arg2.view.read (Elt F) f2) (arg3.view.read (Elt F) f3) (arg4.view.read (Elt F) f4) (arg5.view.read (Elt F) f5) (heldOf arg9 arg10 arg11 arg12 arg13 f9 f10 f11 f12 f13)).a ∧ (heldOf arg9 arg10 arg11 arg12 arg13 f9' f10' f11' f12' f13').b = (tail i (arg2.view.read (Elt F) f2) (arg3.view.read (Elt F) f3) (arg4.view.read (Elt F) f4) (arg5.view.read (Elt F) f5) (heldOf arg9 arg10 arg11 arg12 arg13 f9 f10 f11 f12 f13)).b⌝)) := by
  rw [k0_part34_eq_skeleton]
  unfold k0_part34_skel
  iintro ⟨HR2, HR3, HR4, HR5, HR6, H9, H10, H11, H12, H13⟩
  sl_exec (disch := first | sl_exact hc2 | sl_exact hc3 | sl_exact hc4 | sl_exact hc5)
  sl_step
  isplitr
  · ipureintro; rfl
  isplitl [HR2]; · iexact HR2
  isplitl [HR3]; · iexact HR3
  isplitl [HR4]; · iexact HR4
  isplitl [HR5]; · iexact HR5
  isplitl [HR6]; · iexact HR6
  iexists _; iexists _; iexists _; iexists _; iexists _
  isplitl [H9]; · iexact H9
  isplitl [H10]; · iexact H10
  isplitl [H11]; · iexact H11
  isplitl [H12]; · iexact H12
  isplitl [H13]; · iexact H13
  ipureintro
  dsimp only [tail]
  rw [dif_pos hc2, dif_pos hc3, dif_neg hc4, dif_pos hc5]
  unfold heldOf
  unfold oddSpan oddTile nearSpan absorbStored take512 take1024 absorb1024 absorb512
  dsimp only
  sl_unfold_run_names
  simp (discharger := decide) only [load_hit, load_miss, cov_hit, cov_miss]
  exact ⟨rfl, rfl⟩

end Cert.Attn
-- ==== Proof.Body.lean ====
/-
  The whole body of the kernel at one grid point, run over any element operations: the result block it leaves is `outTile`
  of the six blocks it is given.
-/
module

public import proofs.«01_k».proof.Proof.Tail

set_option maxRecDepth 16384

@[expose] public section
noncomputable section

namespace Cert.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The grid point of the first head with query tile `n`. -/
def tileAt (n : Fin 32) : grid0.Coords := fun a => match a with
  | ⟨0, _⟩ => (0 : Fin 16)
  | ⟨1, _⟩ => n

/-- What the conditions and trip counts, which look at the query tile alone, have to do with one another. -/
theorem conds (i : grid0.Coords) : (k0_t2_loop i).trips = 0 ∧ (k0_cond1 i ≠ 1#1 → (k0_t1_loop i).trips = 0 ∧ k0_cond2 i ≠ 1#1)
    ∧ (k0_cond4 i = 1#1 → k0_cond1 i ≠ 1#1 ∧ k0_cond2 i ≠ 1#1 ∧ k0_cond3 i ≠ 1#1 ∧ k0_cond5 i ≠ 1#1)
    ∧ (k0_cond4 i ≠ 1#1 → k0_cond5 i = 1#1) := by
  have key : ∀ n : Fin 32, (k0_t2_loop (tileAt n)).trips = 0 ∧ (k0_cond1 (tileAt n) ≠ 1#1 → (k0_t1_loop (tileAt n)).trips = 0 ∧ k0_cond2 (tileAt n) ≠ 1#1)
    ∧ (k0_cond4 (tileAt n) = 1#1 → k0_cond1 (tileAt n) ≠ 1#1 ∧ k0_cond2 (tileAt n) ≠ 1#1 ∧ k0_cond3 (tileAt n) ≠ 1#1 ∧ k0_cond5 (tileAt n) ≠ 1#1)
    ∧ (k0_cond4 (tileAt n) ≠ 1#1 → k0_cond5 (tileAt n) = 1#1) := by decide +kernel
  exact key (i 1)

/-- The sums before any key: the maximum at the kernel's large negative number, the sums at zero. -/
def start : Slabs F where
  m := fun _ => Scalar.ofBits .f32 0xF149F2CA#32
  l := fun _ => Scalar.ofBits .f32 0x00000000#32
  acc := fun _ => Scalar.ofBits .f32 0x00000000#32

/-- The state before any key; the slot for scores and row maxima is not yet written, and what is named here is not read. -/
def blank : Held F where
  a := start
  b := start
  sa := fun _ => Scalar.ofBits .bf16 0x0000#16
  sb := fun _ => Scalar.ofBits .bf16 0x0000#16
  ra := fun _ => Scalar.ofBits .f32 0x00000000#32
  rb := fun _ => Scalar.ofBits .f32 0x00000000#32

/-- The state behind the far spans the loop takes in pairs. -/
def farState (i : grid0.Coords) (X2 : S512x256.Idx → Elt F .bf16) (X3 X4 : S16384x256.Idx → Elt F .bf16) : Held F :=
  if h : k0_cond1 i = 1#1 then farLoop i X2 X3 X4 (primed i h X2 X3 blank) (k0_t1_loop i).trips else blank

/-- The result block of a grid point: the last state divided out, the second map taken off the first, the rows normalised. -/
def outTile (i : grid0.Coords) (X2 : S512x256.Idx → Elt F .bf16) (X3 : S16384x256.Idx → Elt F .bf16) (X4 : S16384x256.Idx → Elt F .bf16) (X5 : S1x2x512x1024.Idx → Elt F .f32) (X6 : S4x128.Idx → Elt F .f32) (X7 : S1x256.Idx → Elt F .f32) : Vec F S512x256 .bf16 :=
  let g := tail i X2 X3 X4 X5 (farState i X2 X3 X4)
  k0_pay248 (k0_pay247 (View.ld (Val := Elt F) X6 (Rect.unit ![0, 0] S4x128.size inb_S4x128_S4x128_0_0))) g.a.acc g.a.l g.b.acc g.b.l
    (View.ld (Val := Elt F) X7 (Rect.unit ![0, 0] S1x256.size inb_S1x256_S1x256_0_0))

/-- A part of a buffer whose last store covers it all. -/
theorem load_of_full {sig : RefSig} {κ : Kind} {sp : Space} {s : Shape} {e : EltTy} {Val : EltTy → Type}
    (v : View sig κ sp s e) (f : v.ty.Contents Val) {off off' size : Fin s.rank → ℕ}
    (inb : ∀ a, off a + s.size a ≤ s.size a) (inb' : ∀ a, off' a + size a ≤ s.size a) (w : (Rect.unit off s.size inb).shape.Idx → Val e)
    (L : List (View.Piece Val s e)) :
    v.readAt Val (Rect.unit off' size inb').toLoadRect (v.writes Val f (⟨Rect.unit off s.size inb, w⟩ :: L)) = VecWindow.window w off' size inb' := by
  rw [View.readAt_unit v _ inb' rfl inb', View.read_writes_full v f inb w L]

/-- The tail looks at the stored slot only when there is an odd far span. -/
theorem tail_congr (i : grid0.Coords) (h2 : k0_cond2 i ≠ 1#1) (X2 : S512x256.Idx → Elt F .bf16) (X3 X4 : S16384x256.Idx → Elt F .bf16) (X5 : S1x2x512x1024.Idx → Elt F .f32)
    {g g' : Held F} (ha : g.a = g'.a) (hb : g.b = g'.b) :
    (tail i X2 X3 X4 X5 g).a = (tail i X2 X3 X4 X5 g').a ∧ (tail i X2 X3 X4 X5 g).b = (tail i X2 X3 X4 X5 g').b := by
  have key : ∀ u u' : Held F, u.a = u'.a → u.b = u'.b →
      (if h : k0_cond4 i = 1#1 then diagTile i h X2 X3 X4 X5 u else if h : k0_cond5 i = 1#1 then nearSpan i h X2 X3 X4 X5 u else u).a
        = (if h : k0_cond4 i = 1#1 then diagTile i h X2 X3 X4 X5 u' else if h : k0_cond5 i = 1#1 then nearSpan i h X2 X3 X4 X5 u' else u').a
      ∧ (if h : k0_cond4 i = 1#1 then diagTile i h X2 X3 X4 X5 u else if h : k0_cond5 i = 1#1 then nearSpan i h X2 X3 X4 X5 u else u).b
        = (if h : k0_cond4 i = 1#1 then diagTile i h X2 X3 X4 X5 u' else if h : k0_cond5 i = 1#1 then nearSpan i h X2 X3 X4 X5 u' else u').b := by
    intro u u' hu hu'
    split
    · simp only [diagTile, hu, hu', and_self]
    · split
      · simp only [nearSpan, hu, hu', and_self]
      · exact ⟨hu, hu'⟩
  unfold tail
  rw [dif_neg h2, dif_neg h2]
  apply key
  · split
    · simp only [oddTile, ha]
    · exact ha
  · split
    · simp only [oddTile, hb]
    · exact hb

theorem init_run (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    (iprop((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part32 (F := F) i arg2 harg2 arg3 harg3 arg4 harg4 arg5 harg5 arg6 harg6 arg7 harg7 arg8 harg8 arg9 harg9 arg10 harg10 arg11 harg11 arg12 harg12 arg13 harg13)
          (fun _ => iprop(∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜(heldOf arg9 arg10 arg11 arg12 arg13 f9' f10' f11' f12' f13').a = start ∧ (heldOf arg9 arg10 arg11 arg12 arg13 f9' f10' f11' f12' f13').b = start⌝)) := by
  rw [k0_part32_eq_skeleton]
  unfold k0_part32_skel
  iintro ⟨H9, H10, H11, H12, H13⟩
  sl_exec
  sl_step
  iexists _; iexists _; iexists _; iexists _; iexists _
  isplitl [H9]; · iexact H9
  isplitl [H10]; · iexact H10
  isplitl [H11]; · iexact H11
  isplitl [H12]; · iexact H12
  isplitl [H13]; · iexact H13
  ipureintro
  unfold heldOf start
  rw [Slabs.mk.injEq, Slabs.mk.injEq]
  refine ⟨⟨?_, ?_, ?_⟩, ?_, ?_, ?_⟩
  · exact (load_of_full arg9.view f9 inb_S2x512x128_S2x512x128_0_0_0 _ _ _).trans rfl
  · exact (load_of_full arg10.view f10 inb_S2x512x128_S2x512x128_0_0_0 _ _ _).trans rfl
  · exact (load_of_full arg11.view f11 inb_S2x512x256_S2x512x256_0_0_0 _ _ _).trans rfl
  · exact (load_of_full arg9.view f9 inb_S2x512x128_S2x512x128_0_0_0 _ _ _).trans rfl
  · exact (load_of_full arg10.view f10 inb_S2x512x128_S2x512x128_0_0_0 _ _ _).trans rfl
  · exact (load_of_full arg11.view f11 inb_S2x512x256_S2x512x256_0_0_0 _ _ _).trans rfl

theorem nofar_run (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (v30 : BitVec 32) (v32 : BitVec 32) (E : Set ℕ) (f2 : BufTy.Contents (Elt F) arg2.view.ty) (f3 : BufTy.Contents (Elt F) arg3.view.ty) (f4 : BufTy.Contents (Elt F) arg4.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hc : ¬ k0_cond1 i = 1#1) (htr : (k0_t2_loop i).trips = 0) (htr1 : (k0_t1_loop i).trips = 0) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part33 (F := F) i arg2 harg2 arg3 harg3 arg4 harg4 arg5 harg5 arg6 harg6 arg7 harg7 arg8 harg8 arg9 harg9 arg10 harg10 arg11 harg11 arg12 harg12 arg13 harg13 v30 v32)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))) := by
  rw [k0_part33_eq_skeleton]
  unfold k0_part33_skel
  iintro ⟨HR2, HR3, HR4, H9, H10, H11, H12, H13⟩
  sl_exec (disch := sl_exact hc)
  sl_step
  isplitl [HR2]; · iexact HR2
  isplitl [HR3]; · iexact HR3
  isplitl [HR4]; · iexact HR4
  isplitl [H9]; · iexact H9
  isplitl [H10]; · iexact H10
  isplitl [H11]; · iexact H11
  isplitl [H12]; · iexact H12
  iexact H13

/-- The part behind the loop, whatever the query tile. -/
theorem tail_run (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (arg1 v13 v30 : BitVec 32) (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg1 v13 v30)
          (fun r => iprop(⌜r = k0_pay247 (arg6.view.readAt (Elt F) (Rect.unit (s := S4x128) ![0, 0] S4x128.size inb_S4x128_S4x128_0_0).toLoadRect f6)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜(heldOf arg9 arg10 arg11 arg12 arg13 f9' f10' f11' f12' f13').a = (tail i (arg2.view.read (Elt F) f2) (arg3.view.read (Elt F) f3) (arg4.view.read (Elt F) f4) (arg5.view.read (Elt F) f5) (heldOf arg9 arg10 arg11 arg12 arg13 f9 f10 f11 f12 f13)).a ∧ (heldOf arg9 arg10 arg11 arg12 arg13 f9' f10' f11' f12' f13').b = (tail i (arg2.view.read (Elt F) f2) (arg3.view.read (Elt F) f3) (arg4.view.read (Elt F) f4) (arg5.view.read (Elt F) f5) (heldOf arg9 arg10 arg11 arg12 arg13 f9 f10 f11 f12 f13)).b⌝)) := by
  obtain ⟨-, -, h4, h5⟩ := conds i
  by_cases hc4 : k0_cond4 i = 1#1
  · obtain ⟨-, hc2, hc3, hc5⟩ := h4 hc4
    exact tail_run_first 𝒱 c bd i arg2 harg2 arg3 harg3 arg4 harg4 arg5 harg5 arg6 harg6 arg7 harg7 arg8 harg8 arg9 harg9 arg10 harg10 arg11 harg11 arg12 harg12 arg13 harg13 arg1 v13 v30 E f2 f3 f4 f5 f6 f9 f10 f11 f12 f13 hc2 hc3 hc4 hc5
  · have hc5 := h5 hc4
    by_cases hc2 : k0_cond2 i = 1#1 <;> by_cases hc3 : k0_cond3 i = 1#1
    · exact tail_run_both 𝒱 c bd i arg2 harg2 arg3 harg3 arg4 harg4 arg5 harg5 arg6 harg6 arg7 harg7 arg8 harg8 arg9 harg9 arg10 harg10 arg11 harg11 arg12 harg12 arg13 harg13 arg1 v13 v30 E f2 f3 f4 f5 f6 f9 f10 f11 f12 f13 hc2 hc3 hc4 hc5
    · exact tail_run_span 𝒱 c bd i arg2 harg2 arg3 harg3 arg4 harg4 arg5 harg5 arg6 harg6 arg7 harg7 arg8 harg8 arg9 harg9 arg10 harg10 arg11 harg11 arg12 harg12 arg13 harg13 arg1 v13 v30 E f2 f3 f4 f5 f6 f9 f10 f11 f12 f13 hc2 hc3 hc4 hc5
    · exact tail_run_tile 𝒱 c bd i arg2 harg2 arg3 harg3 arg4 harg4 arg5 harg5 arg6 harg6 arg7 harg7 arg8 harg8 arg9 harg9 arg10 harg10 arg11 harg11 arg12 harg12 arg13 harg13 arg1 v13 v30 E f2 f3 f4 f5 f6 f9 f10 f11 f12 f13 hc2 hc3 hc4 hc5
    · exact tail_run_near 𝒱 c bd i arg2 harg2 arg3 harg3 arg4 harg4 arg5 harg5 arg6 harg6 arg7 harg7 arg8 harg8 arg9 harg9 arg10 harg10 arg11 harg11 arg12 harg12 arg13 harg13 arg1 v13 v30 E f2 f3 f4 f5 f6 f9 f10 f11 f12 f13 hc2 hc3 hc4 hc5

/-- The loop part from the state the kernel starts with: whatever the tail makes of it is what it makes of `farState`. -/
theorem loop_run (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (v30 v32 : BitVec 32) (E : Set ℕ) (f2 : BufTy.Contents (Elt F) arg2.view.ty) (f3 : BufTy.Contents (Elt F) arg3.view.ty) (f4 : BufTy.Contents (Elt F) arg4.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hs : (heldOf arg9 arg10 arg11 arg12 arg13 f9 f10 f11 f12 f13).a = start ∧ (heldOf arg9 arg10 arg11 arg12 arg13 f9 f10 f11 f12 f13).b = start) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (k0_part33 (F := F) i arg2 harg2 arg3 harg3 arg4 harg4 arg5 harg5 arg6 harg6 arg7 harg7 arg8 harg8 arg9 harg9 arg10 harg10 arg11 harg11 arg12 harg12 arg13 harg13 v30 v32)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ ∃ f9' f10' f11' f12' f13', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗
            ⌜∀ X5 : S1x2x512x1024.Idx → Elt F .f32, (tail i (arg2.view.read (Elt F) f2) (arg3.view.read (Elt F) f3) (arg4.view.read (Elt F) f4) X5 (heldOf arg9 arg10 arg11 arg12 arg13 f9' f10' f11' f12' f13')).a = (tail i (arg2.view.read (Elt F) f2) (arg3.view.read (Elt F) f3) (arg4.view.read (Elt F) f4) X5 (farState i (arg2.view.read (Elt F) f2) (arg3.view.read (Elt F) f3) (arg4.view.read (Elt F) f4))).a
              ∧ (tail i (arg2.view.read (Elt F) f2) (arg3.view.read (Elt F) f3) (arg4.view.read (Elt F) f4) X5 (heldOf arg9 arg10 arg11 arg12 arg13 f9' f10' f11' f12' f13')).b = (tail i (arg2.view.read (Elt F) f2) (arg3.view.read (Elt F) f3) (arg4.view.read (Elt F) f4) X5 (farState i (arg2.view.read (Elt F) f2) (arg3.view.read (Elt F) f3) (arg4.view.read (Elt F) f4))).b⌝)) := by
  obtain ⟨htr, h1, -, -⟩ := conds i
  by_cases hc : k0_cond1 i = 1#1
  · iintro ⟨HR2, HR3, HR4, H9, H10, H11, H12, H13⟩
    iapply wp_wand_r
    isplitl [HR2 HR3 HR4 H9 H10 H11 H12 H13]
    · iapply (far_run 𝒱 c bd i arg2 harg2 arg3 harg3 arg4 harg4 arg5 harg5 arg6 harg6 arg7 harg7 arg8 harg8 arg9 harg9 arg10 harg10 arg11 harg11 arg12 harg12 arg13 harg13 v30 v32 E f2 f3 f4 f9 f10 f11 f12 f13 hc htr)
      isplitl [HR2]; · iexact HR2
      isplitl [HR3]; · iexact HR3
      isplitl [HR4]; · iexact HR4
      isplitl [H9]; · iexact H9
      isplitl [H10]; · iexact H10
      isplitl [H11]; · iexact H11
      isplitl [H12]; · iexact H12
      iexact H13
    iintro %_v ⟨HR2, HR3, HR4, %g9, %g10, %g11, %g12, %g13, H9, H10, H11, H12, H13, %hg⟩
    isplitl [HR2]; · iexact HR2
    isplitl [HR3]; · iexact HR3
    isplitl [HR4]; · iexact HR4
    iexists g9; iexists g10; iexists g11; iexists g12; iexists g13
    isplitl [H9]; · iexact H9
    isplitl [H10]; · iexact H10
    isplitl [H11]; · iexact H11
    isplitl [H12]; · iexact H12
    isplitl [H13]; · iexact H13
    ipureintro
    have e : heldOf arg9 arg10 arg11 arg12 arg13 g9 g10 g11 g12 g13 = farState i (arg2.view.read (Elt F) f2) (arg3.view.read (Elt F) f3) (arg4.view.read (Elt F) f4) := by
      rw [hg, farState, dif_pos hc]
      congr 1
      simp only [primed, hs, blank]
    rw [e]
    exact fun _ => ⟨rfl, rfl⟩
  · obtain ⟨htr1, hc2⟩ := h1 hc
    iintro ⟨HR2, HR3, HR4, H9, H10, H11, H12, H13⟩
    iapply wp_wand_r
    isplitl [HR2 HR3 HR4 H9 H10 H11 H12 H13]
    · iapply (nofar_run 𝒱 c bd i arg2 harg2 arg3 harg3 arg4 harg4 arg5 harg5 arg6 harg6 arg7 harg7 arg8 harg8 arg9 harg9 arg10 harg10 arg11 harg11 arg12 harg12 arg13 harg13 v30 v32 E f2 f3 f4 f9 f10 f11 f12 f13 hc htr htr1)
      isplitl [HR2]; · iexact HR2
      isplitl [HR3]; · iexact HR3
      isplitl [HR4]; · iexact HR4
      isplitl [H9]; · iexact H9
      isplitl [H10]; · iexact H10
      isplitl [H11]; · iexact H11
      isplitl [H12]; · iexact H12
      iexact H13
    iintro %_v ⟨HR2, HR3, HR4, H9, H10, H11, H12, H13⟩
    isplitl [HR2]; · iexact HR2
    isplitl [HR3]; · iexact HR3
    isplitl [HR4]; · iexact HR4
    iexists f9; iexists f10; iexists f11; iexists f12; iexists f13
    isplitl [H9]; · iexact H9
    isplitl [H10]; · iexact H10
    isplitl [H11]; · iexact H11
    isplitl [H12]; · iexact H12
    isplitl [H13]; · iexact H13
    ipureintro
    intro X5
    apply tail_congr i hc2
    · rw [farState, dif_neg hc]; exact hs.1
    · rw [farState, dif_neg hc]; exact hs.2

/-- The body at one grid point. -/
theorem body_run (𝒱 : Variants) (c : Dev nD) (bd : Option 𝒱.V) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x2x512x1024 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x256 .f32) (harg11 : arg11.IsWhole) (arg12 : Memref sig .tc .vmem S2x2x512x1024 .bf16) (harg12 : arg12.IsWhole) (arg13 : Memref sig .tc .vmem S2x2x512x128 .f32) (harg13 : arg13.IsWhole) (E : Set ℕ) (X2 : S512x256.Idx → Elt F .bf16) (X3 : S16384x256.Idx → Elt F .bf16) (X4 : S16384x256.Idx → Elt F .bf16) (X5 : S1x2x512x1024.Idx → Elt F .f32) (X6 : S4x128.Idx → Elt F .f32) (X7 : S1x256.Idx → Elt F .f32) (K : PUnit → sProp 𝕄G) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))
        ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outTile i X2 X3 X4 X5 X6 X7) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ⟨⟩)) : sProp 𝕄G)
      ⊢ wp frame (wpE (defs₀ (F := F)) 𝒱 (c : Thread nD τ) bd) E (cc0_diff_attn (F := F) i arg2 harg2 arg3 harg3 arg4 harg4 arg5 harg5 arg6 harg6 arg7 harg7 arg8 harg8 arg9 harg9 arg10 harg10 arg11 harg11 arg12 harg12 arg13 harg13) K := by
  rw [cc0_diff_attn_eq_skeleton]
  unfold cc0_diff_attn_skel
  rw [k0_part35_eq_skeleton]
  unfold k0_part35_skel owns
  iintro ⟨⟨%f2, %hX2, HR2⟩, ⟨%f3, %hX3, HR3⟩, ⟨%f4, %hX4, HR4⟩, ⟨%f5, %hX5, HR5⟩, ⟨%f6, %hX6, HR6⟩, ⟨%f7, %hX7, HR7⟩, ⟨%d8, %f8, -, HR8⟩, ⟨%f9, H9⟩, ⟨%f10, H10⟩, ⟨%f11, H11⟩, ⟨%f12, H12⟩, ⟨%f13, H13⟩, HK⟩
  subst hX2; subst hX3; subst hX4; subst hX5; subst hX6; subst hX7
  rw [wp_bind, wp_bind]
  iapply wp_wand_r
  isplitl [H9 H10 H11 H12 H13]
  · iapply (init_run 𝒱 c bd i arg2 harg2 arg3 harg3 arg4 harg4 arg5 harg5 arg6 harg6 arg7 harg7 arg8 harg8 arg9 harg9 arg10 harg10 arg11 harg11 arg12 harg12 arg13 harg13 E f9 f10 f11 f12 f13)
    isplitl [H9]; · iexact H9
    isplitl [H10]; · iexact H10
    isplitl [H11]; · iexact H11
    isplitl [H12]; · iexact H12
    iexact H13
  iintro %r ⟨%g9, %g10, %g11, %g12, %g13, H9, H10, H11, H12, H13, %hs⟩
  obtain ⟨r1, r2, r3, r4⟩ := r
  dsimp only
  rw [wp_bind]
  iapply wp_wand_r
  isplitl [HR2 HR3 HR4 H9 H10 H11 H12 H13]
  · iapply (loop_run 𝒱 c bd i arg2 harg2 arg3 harg3 arg4 harg4 arg5 harg5 arg6 harg6 arg7 harg7 arg8 harg8 arg9 harg9 arg10 harg10 arg11 harg11 arg12 harg12 arg13 harg13 r3 r4 E f2 f3 f4 g9 g10 g11 g12 g13 hs)
    isplitl [HR2]; · iexact HR2
    isplitl [HR3]; · iexact HR3
    isplitl [HR4]; · iexact HR4
    isplitl [H9]; · iexact H9
    isplitl [H10]; · iexact H10
    isplitl [H11]; · iexact H11
    isplitl [H12]; · iexact H12
    iexact H13
  iintro %_u ⟨HR2, HR3, HR4, %h9, %h10, %h11, %h12, %h13, H9, H10, H11, H12, H13, %hg⟩
  rw [wp_bind]
  iapply wp_wand_r
  isplitl [HR2 HR3 HR4 HR5 HR6 H9 H10 H11 H12 H13]
  · iapply (tail_run 𝒱 c bd i arg2 harg2 arg3 harg3 arg4 harg4 arg5 harg5 arg6 harg6 arg7 harg7 arg8 harg8 arg9 harg9 arg10 harg10 arg11 harg11 arg12 harg12 arg13 harg13 r1 r2 r3 E f2 f3 f4 f5 f6 h9 h10 h11 h12 h13)
    isplitl [HR2]; · iexact HR2
    isplitl [HR3]; · iexact HR3
    isplitl [HR4]; · iexact HR4
    isplitl [HR5]; · iexact HR5
    isplitl [HR6]; · iexact HR6
    isplitl [H9]; · iexact H9
    isplitl [H10]; · iexact H10
    isplitl [H11]; · iexact H11
    isplitl [H12]; · iexact H12
    iexact H13
  iintro %v104 ⟨%hr, HR2, HR3, HR4, HR5, HR6, %u9, %u10, %u11, %u12, %u13, H9, H10, H11, H12, H13, %hu⟩
  sl_exec
  sl_step
  iapply HK
  isplitl [HR2]
  · iexists f2
    isplitr; · ipureintro; rfl
    iexact HR2
  isplitl [HR3]
  · iexists f3
    isplitr; · ipureintro; rfl
    iexact HR3
  isplitl [HR4]
  · iexists f4
    isplitr; · ipureintro; rfl
    iexact HR4
  isplitl [HR5]
  · iexists f5
    isplitr; · ipureintro; rfl
    iexact HR5
  isplitl [HR6]
  · iexists f6
    isplitr; · ipureintro; rfl
    iexact HR6
  isplitl [HR7]
  · iexists f7
    isplitr; · ipureintro; rfl
    iexact HR7
  isplitl [HR8]
  · iexists _
    isplitr; swap; · iexact HR8
    ipureintro
    refine (View.read_writes_full _ _ _ _ _).trans ?_
    unfold outTile
    dsimp only
    rw [← (hg _).1, ← (hg _).2, ← hu.1, ← hu.2]
    subst hr
    rfl
  isplitl [H9]; · iexists _; iexact H9
  isplitl [H10]; · iexists _; iexact H10
  isplitl [H11]; · iexists _; iexact H11
  isplitl [H12]; · iexists _; iexact H12
  iexists _; iexact H13

end Cert.Attn
-- ==== Proof.Launched.lean ====
/-
  The launch of the attention kernel: its proof data, the body obligation, and the run of the whole program.
-/
module

public import proofs.«01_k».proof.Proof.Body

set_option maxRecDepth 16384

@[expose] public section
noncomputable section

namespace Cert.Attn

open Idealize.ShloMosaic.Rounds
open Idealize.ShloMosaic.Pipeline (Dat Cfg Window BodyObligation cellOf)
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The result block of point `t`, from the blocks of the windows. -/
def outsAt (c : Dev nD) (t : Fin cfg0.N) : Vec F S512x256 .bf16 :=
  outTile (grid0.coords t) (iblk m c 0 t) (iblk m c 1 t) (iblk m c 2 t) (iblk m c 3 t) (iblk m c 4 t) (iblk m c 5 t)

/-- The proof data: inputs at their blocks, the result at `outsAt`, the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outsAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A scratch buffer owned as a whole, as the body run states it. -/
theorem scratch_eq (c : Dev nD) (b : Ref sig .tc) (f : Buf (Elt F) ((c : Thread nD τ).loc b)) :
    ((((c : Thread nD τ).loc b) ↦{fullShare} f : sProp 𝕄G)) = ((Memref.whole b).view.loc (c : Thread nD τ) ↦[(Memref.whole b).view.set]{fullShare} f) := by
  rw [View.set_whole]

theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3, before_4, before_5]
  rw [show (dats m 0 c).Φ t.succ = (dats m 0 c).Φ t.castSucc from rfl,
    show (dats m 0 c).owesAt () t.succ = (dats m 0 c).owesAt () t.castSucc from rfl, after_0, after_1, after_2, after_3, after_4, after_5, after_6,
    show (dats m 0 c).Φ t.castSucc = Pipeline.ΦA spec0 c from rfl]
  unfold outsAt
  unfold Pipeline.ΦA
  rw [scopedRest0_eq]
  iintro ⟨⟨⟨⟨%f9, H9⟩, ⟨%f10, H10⟩, ⟨%f11, H11⟩, ⟨%f12, H12⟩, ⟨%f13, H13⟩⟩, Hg⟩, HO, ⟨%d0, H2⟩, ⟨%d1, H3⟩, ⟨%d2, H4⟩, ⟨%d3, H5⟩, ⟨%d4, H6⟩, ⟨%d5, H7⟩, ⟨%d6, H8⟩⟩
  iapply (body_run Variants.none c none (grid0.coords t) _ _ _ _ _ _ _ _ _ _ _ _ _ _ _ _ _ _ _ _ _ _ _ _ Set.univ (iblk m c 0 t) (iblk m c 1 t) (iblk m c 2 t) (iblk m c 3 t) (iblk m c 4 t) (iblk m c 5 t) _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists f9; rw [scratch_eq]; exact .rfl
  isplitl [H10]; · iexists f10; rw [scratch_eq]; exact .rfl
  isplitl [H11]; · iexists f11; rw [scratch_eq]; exact .rfl
  isplitl [H12]; · iexists f12; rw [scratch_eq]; exact .rfl
  isplitl [H13]; · iexists f13; rw [scratch_eq]; exact .rfl
  iintro ⟨H2, H3, H4, H5, H6, H7, H8, ⟨%g9, H9⟩, ⟨%g10, H10⟩, ⟨%g11, H11⟩, ⟨%g12, H12⟩, ⟨%g13, H13⟩⟩
  isplitl [H9 H10 H11 H12 H13 Hg]
  · isplitr [Hg]
    · isplitl [H9]; · iexists g9; rw [scratch_eq]; iexact H9
      isplitl [H10]; · iexists g10; rw [scratch_eq]; iexact H10
      isplitl [H11]; · iexists g11; rw [scratch_eq]; iexact H11
      isplitl [H12]; · iexists g12; rw [scratch_eq]; iexact H12
      iexists g13; rw [scratch_eq]; iexact H13
    iexact Hg
  isplitl [HO]; · iexact HO
  isplitl [H2]; · iexact H2
  isplitl [H3]; · iexact H3
  isplitl [H4]; · iexact H4
  isplitl [H5]; · iexact H5
  isplitl [H6]; · iexact H6
  isplitl [H7]; · iexact H7
  iexact H8

-- the library's run is found by unifying its conclusion with this one, which unfolds plain definitions
set_option backward.isDefEq.respectTransparency.types false in
/-- Every weakly fair execution of the program terminates, with every array of the pipeline at what the proof data says
    and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

end Cert.Attn
-- ==== Proof.Frames.lean ====
/-
  The frames: each program ends with its arguments as it found them and every counter at zero.
-/
module

public import proofs.«01_k».proof.Proof.Launched
public import proofs.«01_k».proof.Proof.Gen.Kernel
public import proofs.«01_k».proof.Proof.Gen.ReferenceIdeal.Run
public import proofs.«01_k».proof.Proof.Gen.Pre_finite_args
public import proofs.«01_k».proof.Defs

set_option maxRecDepth 16384

@[expose] public section
noncomputable section

namespace Cert.Attn

open Idealize.ShloMosaic Idealize.SL.Sem

/-- The attention program with exact arithmetic: arguments unchanged, counters at zero. -/
theorem frame_exact : Cert.quiescent_KernelIdeal (hKernelIdeal := Cert.KernelIdeal.Gen.facts) := fun m ρ _ =>
  θ_run_with_sems (Cert.KernelIdeal.Gen.frame_of m ρ (dats m) fun _ _ => rfl) (run_main (F := Ideal) m ρ)

section SameText
variable {F : FTy → Type} [FloatOps F]
set_option maxHeartbeats 2000000
set_option backward.isDefEq.respectTransparency.types false

/-- The two texts have the same kernel bodies. -/
theorem bodies_same : Cert.Kernel.defs₀ (F := F) = Cert.KernelIdeal.defs₀ (F := F) := by
  unfold Cert.Kernel.defs₀ Cert.KernelIdeal.defs₀
  refine congrArg (Defs.onTc (Λ := Cert.KernelIdeal.Λ₀)) (funext fun ℓ => funext fun a => ?_)
  match ℓ, a with
  | 0, (t, s) => rfl
  | ⟨_ + 1, h⟩, _ => exact absurd h (Nat.not_lt.2 (Nat.le_add_left _ _))

/-- The two texts have the same body tables. -/
theorem tables_same : Cert.Kernel.defs (F := F) = Cert.KernelIdeal.defs (F := F) := by
  unfold Cert.Kernel.defs
  rw [bodies_same]
  rfl

/-- The two texts have the same host functions. -/
theorem hosts_same : Cert.Kernel.main (F := F) = Cert.KernelIdeal.main (F := F) := rfl

/-- The attention program on machine words: its text is that of the exact one, so its run is that run read at words. -/
theorem frame_words : Cert.quiescent_Kernel (hKernel := Cert.Kernel.Gen.facts) := fun m ρ _ => by
  rw [tables_same, hosts_same]
  exact (θ_run Cert.KernelIdeal.defs _ _).mono (fun _ h => h)
    (θ_run_with_sems (Cert.KernelIdeal.Gen.frame_of m ρ (dats m) fun _ _ => rfl) (run_main (F := Bits) m ρ))

end SameText

/-- The reference: it declares no semaphore, and its run leaves the arguments alone. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same from finite arguments. -/
theorem frame_exact_finite : Cert.quiescent_KernelIdeal_pre_finite_args (hKernelIdeal := Cert.KernelIdeal.Gen.facts)
    (hPre_finite_args := Cert.Pre_finite_args.Gen.facts) := fun m ρ _ => frame_exact m ρ trivial

/-- The same from finite arguments. -/
theorem frame_reference_finite : Cert.quiescent_ReferenceIdeal_pre_finite_args
    (hReferenceIdeal := Cert.ReferenceIdeal.Gen.facts) (hPre_finite_args := Cert.Pre_finite_args.Gen.facts) :=
  fun m ρ _ => frame_reference m ρ trivial

end Cert.Attn
-- ==== Proof.Words.lean ====
/-
  The bucket of a distance as a word, and the two table lookups read at an index.
-/
module

public import Idealize.ShloMosaic.Lib.Pointwise
public import Idealize.ShloMosaic.Lib.IdealHost
public import Idealize.ShloMosaic.Lib.WordCmp

@[expose] public section

set_option maxRecDepth 16384

noncomputable section

namespace Cert.Attn

open Idealize.ShloMosaic
open Idealize.ShloMosaic (ix0 ix1 ix2 ix3 ix4)

/-- The word the logarithmic half of the bucket function gives before it is capped. -/
def logWord (t : ℕ) : BitVec 32 :=
  FloatOps.fptosi (F := Ideal) (φ := .f32) 32 (Ideal.div (Ideal.log (Ideal.div (FloatOps.sitofp (F := Ideal) FTy.f32 (IntOp.maxsi (BitVec.ofNat 32 t) 1#32)) (Ideal.ofBits FTy.f32 0x41800000#32)))
    (Ideal.ofBits FTy.f32 0x40051592#32) * Ideal.ofBits FTy.f32 0x41800000#32)

/-- The bucket of distance `t`. -/
def bucket (t : ℕ) : BitVec 32 :=
  Scalar.select (IntOp.cmpi CmpIPredicate.slt (BitVec.ofNat 32 t) 16#32) (BitVec.ofNat 32 t) (IntOp.minsi (IntOp.addi (16#32) (logWord t)) 31#32)

/-- The bucket as a lookup's start, a negative one counted from the end. -/
def lookup (t : ℕ) : BitVec 32 :=
  Scalar.select (IntOp.cmpi CmpIPredicate.slt (bucket t) 0#32) (IntOp.addi (bucket t) 32#32) (bucket t)

/-- The row of the bias table that distance `t` reads. -/
def rowOf (t : ℕ) : Fin 32 := ⟨min (lookup t).toInt.toNat 31, by omega⟩

theorem lit_sixteen : Ideal.ofBits .f32 0x41800000#32 = ((16 : ℝ) : EReal) := by
  simp [Ideal.ofBits, Ideal.ieee]
  rw [← EReal.coe_mul]
  norm_num

theorem lit_scale : Ideal.ofBits .f32 0x40051592#32 = ((8721810 / 4194304 : ℝ) : EReal) := by
  simp [Ideal.ofBits, Ideal.ieee]
  rw [← EReal.coe_mul]
  norm_num

theorem log_two_low : (0.65 : ℝ) ≤ Real.log 2 := by
  have s : ∀ k : ℝ, 0 < k → 1 / (k + 1) ≤ Real.log (k + 1) - Real.log k := fun k hk => by
    have h := Real.one_sub_inv_le_log_of_pos (x := (k + 1) / k) (by positivity)
    rw [Real.log_div (by positivity) (by positivity)] at h
    refine le_trans (le_of_eq ?_) h
    field_simp
    ring
  have h6 := s 6 (by norm_num)
  have h7 := s 7 (by norm_num)
  have h8 := s 8 (by norm_num)
  have h9 := s 9 (by norm_num)
  have h10 := s 10 (by norm_num)
  have h11 := s 11 (by norm_num)
  have e : Real.log 12 = Real.log 2 + Real.log 6 := by rw [← Real.log_mul (by norm_num) (by norm_num)]; norm_num
  norm_num at h6 h7 h8 h9 h10 h11 ⊢
  linarith

theorem logWord_far (t : ℕ) (h : 128 ≤ t) (h' : t < 16384) : ∃ z : ℤ, 15 ≤ z ∧ z ≤ 100 ∧ logWord t = BitVec.ofInt 32 z := by
  have hmax : (IntOp.maxsi (BitVec.ofNat 32 t) 1#32).toInt = t := by
    have ht : (BitVec.ofNat 32 t).toInt = t := by
      rw [BitVec.toInt_eq_toNat_cond, BitVec.toNat_ofNat, Nat.mod_eq_of_lt (by omega), if_pos (by omega)]
    unfold IntOp.maxsi
    simp [BitVec.slt, ht]
    rw [if_pos (by omega)]
    exact ht
  have htp : (0 : ℝ) < t := by exact_mod_cast (by omega : 0 < t)
  have hl2 := log_two_low
  have hl2' : Real.log 2 ≤ 1 := by have := Real.log_le_sub_one_of_pos two_pos; linarith
  have hlo : 3 * Real.log 2 ≤ Real.log (t / 16) := by
    rw [← Real.log_rpow two_pos]
    apply Real.log_le_log (by positivity)
    have : (128 : ℝ) ≤ t := by exact_mod_cast h
    norm_num
    linarith
  have hhi : Real.log (t / 16) ≤ 10 * Real.log 2 := by
    rw [← Real.log_rpow two_pos]
    apply Real.log_le_log (by positivity)
    have : (t : ℝ) ≤ 16384 := by exact_mod_cast h'.le
    norm_num
    linarith
  have hx : Ideal.div (Ideal.log (Ideal.div (FloatOps.sitofp (F := Ideal) FTy.f32 (IntOp.maxsi (BitVec.ofNat 32 t) 1#32)) (Ideal.ofBits FTy.f32 0x41800000#32)))
      (Ideal.ofBits FTy.f32 0x40051592#32) * Ideal.ofBits FTy.f32 0x41800000#32 = ((Real.log (t / 16) * (4194304 / 8721810) * 16 : ℝ) : EReal) := by
    have e : FloatOps.sitofp (F := Ideal) FTy.f32 (IntOp.maxsi (BitVec.ofNat 32 t) 1#32) = ((t : ℝ) : EReal) := by
      show (((IntOp.maxsi (BitVec.ofNat 32 t) 1#32).toInt : ℝ) : EReal) = _
      rw [hmax]; rfl
    have hlog : Ideal.log ((t / 16 : ℝ) : EReal) = ((Real.log (t / 16) : ℝ) : EReal) := by
      rw [Ideal.log_coe, if_neg (not_le.2 (by positivity))]
    rw [e, lit_sixteen, lit_scale, Ideal.div_coe (by norm_num), Ideal.div_coe (by norm_num), ← EReal.coe_mul, mul_one_div, hlog, ← EReal.coe_mul,
      ← EReal.coe_mul]
    congr 1
    rw [one_div_div]
  refine ⟨⌊Real.log (t / 16) * (4194304 / 8721810) * 16⌋, Int.le_floor.2 ?_, ?_, ?_⟩
  · push_cast; linarith
  · exact Int.lt_add_one_iff.1 (Int.floor_lt.2 (by push_cast; linarith))
  · have hf : ⌊Real.log (t / 16) * (4194304 / 8721810) * 16⌋ < 101 := Int.floor_lt.2 (by push_cast; linarith)
    have hf0 : 0 ≤ ⌊Real.log (t / 16) * (4194304 / 8721810) * 16⌋ := Int.le_floor.2 (by push_cast; linarith)
    unfold logWord
    rw [hx]
    show Ideal.fptosi 32 _ = _
    unfold Ideal.fptosi
    congr 1
    show max _ (min _ (if 0 ≤ Real.log (t / 16) * (4194304 / 8721810) * 16 then _ else _)) = _
    rw [if_pos (by linarith)]
    generalize ⌊Real.log (t / 16) * (4194304 / 8721810) * 16⌋ = z at hf hf0
    rw [min_eq_right (by norm_num; omega), max_eq_right (by norm_num; omega)]

theorem bucket_far (t : ℕ) (h : 128 ≤ t) (h' : t < 16384) : bucket t = 31#32 := by
  obtain ⟨z, h1, h2, e⟩ := logWord_far t h h'
  have hs : IntOp.cmpi CmpIPredicate.slt (BitVec.ofNat 32 t) 16#32 = 0#1 := by
    have := WordCmp.cmpi_slt_ofNat (w := 32) (a := t) (b := 16) (by norm_num; omega) (by norm_num)
    rw [this, decide_eq_false (by omega)]; rfl
  unfold bucket
  rw [hs, e]
  show IntOp.minsi (IntOp.addi (16#32) (BitVec.ofInt 32 z)) 31#32 = 31#32
  obtain ⟨n, rfl⟩ := Int.eq_ofNat_of_zero_le (by omega : 0 ≤ z)
  have hn : n < 101 := by omega
  have hn' : 15 ≤ n := by omega
  have key : ∀ k : Fin 101, 15 ≤ k.val → IntOp.minsi (IntOp.addi (16#32) (BitVec.ofInt 32 (k.val : ℤ))) 31#32 = 31#32 := by decide +kernel
  exact key ⟨n, hn⟩ hn'

theorem rowOf_far (t : ℕ) (h : 128 ≤ t) (h' : t < 16384) : rowOf t = rowOf 128 := by
  unfold rowOf lookup
  simp only [bucket_far t h h', bucket_far 128 le_rfl (by norm_num)]

section Gathers
variable {α : Type}

/-- A lookup of whole rows of a [32, 16, 2] table, one row number per position. -/
def rowsDims (N : ℕ) (wf : GatherDims.WF ⟨3, ![32, 16, 2]⟩ ⟨2, ![N, 1]⟩ ⟨3, ![N, 16, 2]⟩ [1, 2] [0] [] [0] [] 1 ![1, 16, 2]) :
    GatherDims ⟨3, ![32, 16, 2]⟩ ⟨2, ![N, 1]⟩ ⟨3, ![N, 16, 2]⟩ where
  offsetDims := [1, 2]
  collapsedSliceDims := [0]
  operandBatchingDims := []
  startIndicesBatchingDims := []
  startIndexMap := [0]
  indexVectorDim := 1
  sliceSizes := ![1, 16, 2]
  wf := wf

theorem rows_at (N : ℕ) (wf : GatherDims.WF ⟨3, ![32, 16, 2]⟩ ⟨2, ![N, 1]⟩ ⟨3, ![N, 16, 2]⟩ [1, 2] [0] [] [0] [] 1 ![1, 16, 2])
    (x : (⟨3, ![32, 16, 2]⟩ : Shape).Idx → α) (idx : IVec ⟨2, ![N, 1]⟩ 32) (t : Fin N) (h : Fin 16) (μ : Fin 2) :
    Host.gather (rowsDims N wf) x idx (ix3 t h μ) = x (ix3 ⟨min (idx (ix2 t 0)).toInt.toNat 31, by omega⟩ h μ) := by
  unfold Host.gather
  congr 1
  funext a
  refine Fin.ext ?_
  show (rowsDims N wf).start (ix3 t h μ) idx a + (rowsDims N wf).batchCoord (ix3 t h μ) a + (rowsDims N wf).offCoord (ix3 t h μ) a = _
  rw [GatherDims.batchCoord_eq_zero _ _ _ List.not_mem_nil]
  match a with
  | ⟨0, _⟩ =>
    show (rowsDims N wf).start (ix3 t h μ) idx (0 : Fin 3) + 0 + (rowsDims N wf).offCoord (ix3 t h μ) (0 : Fin 3) = _
    rw [GatherDims.offCoord_eq_zero _ _ _ (fun h => ((GatherDims.mem_sKept _ _).mp h).1 (List.mem_singleton.mpr rfl))]
    unfold GatherDims.start
    rw [dif_pos (show (0 : Fin 3) ∈ (rowsDims N wf).startIndexMap from List.mem_singleton.mpr rfl)]
    have hsi : (rowsDims N wf).siIdx (ix3 t h μ) ⟨List.idxOf (0 : Fin 3) (rowsDims N wf).startIndexMap, List.idxOf_lt_length_iff.2 (List.mem_singleton.mpr rfl)⟩
        = ix2 t 0 := by
      funext b; refine Fin.ext ?_
      match b with
      | ⟨0, _⟩ => rfl
      | ⟨1, _⟩ => rfl
    rw [hsi]
    rfl
  | ⟨1, _⟩ => exact Nat.zero_add _
  | ⟨2, _⟩ => exact Nat.zero_add _

/-- A lookup along the last axis of a [16, 2, N] table, one place per pair of positions. -/
def placeDims (N : ℕ) (wf : GatherDims.WF ⟨3, ![16, 2, N]⟩ ⟨3, ![N, N, 1]⟩ ⟨4, ![16, 2, N, N]⟩ [0, 1] [2] [] [2] [] 2 ![16, 2, 1]) :
    GatherDims ⟨3, ![16, 2, N]⟩ ⟨3, ![N, N, 1]⟩ ⟨4, ![16, 2, N, N]⟩ where
  offsetDims := [0, 1]
  collapsedSliceDims := [2]
  operandBatchingDims := []
  startIndicesBatchingDims := []
  startIndexMap := [2]
  indexVectorDim := 2
  sliceSizes := ![16, 2, 1]
  wf := wf

theorem place_at (N : ℕ) (hN : 0 < N) (wf : GatherDims.WF ⟨3, ![16, 2, N]⟩ ⟨3, ![N, N, 1]⟩ ⟨4, ![16, 2, N, N]⟩ [0, 1] [2] [] [2] [] 2 ![16, 2, 1])
    (x : (⟨3, ![16, 2, N]⟩ : Shape).Idx → α) (idx : IVec ⟨3, ![N, N, 1]⟩ 32) (h : Fin 16) (μ : Fin 2) (R j : Fin N) :
    Host.gather (placeDims N wf) x idx (ix4 h μ R j) = x (ix3 h μ ⟨min (idx (ix3 R j 0)).toInt.toNat (N - 1), by omega⟩) := by
  unfold Host.gather
  congr 1
  funext a
  refine Fin.ext ?_
  show (placeDims N wf).start (ix4 h μ R j) idx a + (placeDims N wf).batchCoord (ix4 h μ R j) a + (placeDims N wf).offCoord (ix4 h μ R j) a = _
  rw [GatherDims.batchCoord_eq_zero _ _ _ List.not_mem_nil]
  match a with
  | ⟨0, _⟩ => exact Nat.zero_add _
  | ⟨1, _⟩ => exact Nat.zero_add _
  | ⟨2, _⟩ =>
    show (placeDims N wf).start (ix4 h μ R j) idx (2 : Fin 3) + 0 + (placeDims N wf).offCoord (ix4 h μ R j) (2 : Fin 3) = _
    rw [GatherDims.offCoord_eq_zero _ _ _ (fun h => ((GatherDims.mem_sKept _ _).mp h).1 (List.mem_singleton.mpr rfl))]
    unfold GatherDims.start
    rw [dif_pos (show (2 : Fin 3) ∈ (placeDims N wf).startIndexMap from List.mem_singleton.mpr rfl)]
    have hsi : (placeDims N wf).siIdx (ix4 h μ R j) ⟨List.idxOf (2 : Fin 3) (placeDims N wf).startIndexMap, List.idxOf_lt_length_iff.2 (List.mem_singleton.mpr rfl)⟩
        = ix3 R j 0 := by
      funext b; refine Fin.ext ?_
      match b with
      | ⟨0, _⟩ => rfl
      | ⟨1, _⟩ => rfl
      | ⟨2, _⟩ => rfl
    rw [hsi]
    rfl

end Gathers

end Cert.Attn
-- ==== Proof.Host.lean ====
/-
  What the host leaves in the arrays the kernel reads, at an index.
-/
module

public import proofs.«01_k».proof.Proof.Launched
public import proofs.«01_k».proof.Proof.Words
public import Idealize.ShloMosaic.Lib.StableHlo.ReadAt
public import Idealize.ShloMosaic.Lib.IdealHost

@[expose] public section

set_option maxRecDepth 16384

noncomputable section

namespace Cert.Attn

open Idealize.ShloMosaic Cert.KernelIdeal Cert.KernelIdeal.Gen
open Idealize.ShloMosaic (ix0 ix1 ix2 ix3 ix4)

section Words

theorem select_decide {α : Type} (p : Prop) [Decidable p] (a b : α) : Scalar.select (BitVec.ofBool (decide p)) a b = if p then a else b := by
  by_cases h : p <;> simp [Scalar.select, h]

theorem eq_word (a b : ℕ) (ha : a < 4096) (hb : b < 4096) : IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  constructor
  · intro h
    have := congrArg BitVec.toNat h
    simp only [BitVec.toNat_ofNat] at this
    omega
  · rintro rfl; rfl

theorem slt_word (a b : ℕ) (ha : a < 4096) (hb : b < 4096) : IntOp.cmpi CmpIPredicate.slt (BitVec.ofNat 32 a) (BitVec.ofNat 32 b) = BitVec.ofBool (decide (a < b)) :=
  WordCmp.cmpi_slt_ofNat (by norm_num; omega) (by norm_num; omega)

/-- The host's word for the number of whole `c`-blocks below `x`. -/
def band (c : BitVec 32) (x : ℕ) : BitVec 32 :=
  Scalar.select
    (IntOp.andi
      (IntOp.cmpi CmpIPredicate.ne (if BitVec.ofNat 32 x = 0 then (0 : BitVec 32) else if (BitVec.ofNat 32 x).msb = true then -1 else 1)
        (if c = 0 then (0 : BitVec 32) else if BitVec.msb c = true then -1 else 1))
      (IntOp.cmpi CmpIPredicate.ne (IntOp.remsi ArithUnit.host (BitVec.ofNat 32 x) c) 0#32))
    (IntOp.subi (IntOp.divsi ArithUnit.host (BitVec.ofNat 32 x) c) 1#32)
    (IntOp.divsi ArithUnit.host (BitVec.ofNat 32 x) c)

theorem band_eq (x : ℕ) (h : x < 512) : band 128#32 x = BitVec.ofNat 32 (x / 128) := by
  have key : ∀ k : Fin 512, band 128#32 k.val = BitVec.ofNat 32 (k.val / 128) := by decide +kernel
  exact key ⟨x, h⟩

end Words

section Stages
variable (W : Valuation τ sig (Elt Ideal))

theorem first_v34 (t : Fin 256) : (StableHlo.after (List.flatten [hostOps0, hostOps0_1]) W (Proc.devRef .tc main_v34) : S256.Idx → BitVec 32) (ix1 t) = bucket t := by
  unfold bucket logWord
  after_reads_at

theorem first_arg2 : StableHlo.after (List.flatten [hostOps0, hostOps0_1]) W (Proc.devRef .tc main_arg2) = W (Proc.devRef .tc main_arg2) := by
  after_reads_simp

/-- The table row of distance `t`, as the host looks it up. -/
def hostRow (b : S256.Idx → BitVec 32) (t : Fin 256) : Fin 32 :=
  ⟨min (Scalar.select (IntOp.cmpi CmpIPredicate.slt (b (ix1 t)) 0#32) (IntOp.addi (b (ix1 t)) 32#32) (b (ix1 t))).toInt.toNat 31, by omega⟩

theorem gather_at (x : S32x16x2.Idx → EReal) (b : S256.Idx → BitVec 32) (t : Fin 256) (h : Fin 16) (μ : Fin 2) :
    Host.gather gather_S32x16x2_S256x1_S256x16x2_12_0_n_n_0_1_1162 x
      (broadcastInDim S256x1 ![0] bcast_S256_S256x1_0
        (select (cmpi CmpIPredicate.slt b (broadcastInDim S256 ![] bcast_S_S256 (constantI S_ 32 0#32)))
          (addi b (broadcastInDim S256 ![] bcast_S_S256 (constantI S_ 32 32#32))) b)) (ix3 t h μ)
      = x (ix3 (hostRow b t) h μ) := by
  refine (rows_at 256 _ x _ t h μ).trans ?_
  refine congrArg (fun k => x (ix3 k h μ)) (Fin.ext ?_)
  show min _ 31 = min _ 31
  congr 3
  pointwise

/-- The host's bias for distance `t`, less that of distance 128, in halvings. -/
def hostBias (x : S32x16x2.Idx → EReal) (b : S256.Idx → BitVec 32) (h : Fin 16) (μ : Fin 2) (t : Fin 256) : EReal :=
  Ideal.div (x (ix3 (hostRow b t) h μ) - x (ix3 (hostRow b 128) h μ)) (Ideal.log (Ideal.ofBits FTy.f32 0x40000000#32))

theorem pick (x : S32x16x2.Idx → EReal) (b : S256.Idx → BitVec 32) {t t' : Fin 256} {h h' : Fin 16} {μ μ' : Fin 2} (e : t = t') (e1 : h = h') (e2 : μ = μ') :
    x (ix3 (hostRow b t) h μ) = x (ix3 (hostRow b t') h' μ') := by
  subst e e1 e2; rfl

theorem mid_v57 (h : Fin 16) (μ : Fin 2) (p q : Fin 128) :
    (StableHlo.after (List.flatten [hostOps0_2, hostOps0_3, hostOps0_4, hostOps0_5]) W (Proc.devRef .tc main_v57) : S16x2x128x128.Idx → EReal) (ix4 h μ p q)
      = hostBias (W (Proc.devRef .tc main_arg2)) (W (Proc.devRef .tc main_v34)) h μ ⟨(p.val + 256 - q.val) % 256, by omega⟩ := by
  obtain ⟨z, hz⟩ : ∃ z, z = hostBias (W (Proc.devRef .tc main_arg2)) (W (Proc.devRef .tc main_v34)) h μ ⟨(p.val + 256 - q.val) % 256, by omega⟩ := ⟨_, rfl⟩
  rw [← hz]
  after_reads_at
  have i0 : (if (0 : Fin 4) ∈ [(3 : Fin 4)] then h.rev else h) = h := if_neg (by decide)
  have i1 : (if (1 : Fin 4) ∈ [(3 : Fin 4)] then μ.rev else μ) = μ := if_neg (by decide)
  have i2 : (if (2 : Fin 4) ∈ [(3 : Fin 4)] then p.rev else p) = p := if_neg (by decide)
  have i3 : (if (3 : Fin 4) ∈ [(3 : Fin 4)] then q.rev else q) = q.rev := if_pos (by decide)
  rw [hz]
  clear hz
  unfold hostBias
  refine congrArg₂ Ideal.div (congrArg₂ (· - ·) ((gather_at _ _ _ _ _).trans ?_) ((gather_at _ _ _ _ _).trans ?_)) rfl
  · refine pick _ _ (Fin.ext ?_) i0 i1
    show ((if (2 : Fin 4) ∈ [(3 : Fin 4)] then p.rev else p).val * 257 + (129 + (if (3 : Fin 4) ∈ [(3 : Fin 4)] then q.rev else q).val)) % 256 = (p.val + 256 - q.val) % 256
    rw [i2, i3, Fin.val_rev]
    omega
  · exact pick _ _ rfl i0 i1

theorem mid_v59 (h : Fin 16) (μ : Fin 2) (p q : Fin 128) :
    (StableHlo.after (List.flatten [hostOps0_2, hostOps0_3, hostOps0_4, hostOps0_5]) W (Proc.devRef .tc main_v59) : S16x2x128x128.Idx → EReal) (ix4 h μ p q)
      = hostBias (W (Proc.devRef .tc main_arg2)) (W (Proc.devRef .tc main_v34)) h μ ⟨p.val + 128 - q.val, by omega⟩ := by
  obtain ⟨z, hz⟩ : ∃ z, z = hostBias (W (Proc.devRef .tc main_arg2)) (W (Proc.devRef .tc main_v34)) h μ ⟨p.val + 128 - q.val, by omega⟩ := ⟨_, rfl⟩
  rw [← hz]
  after_reads_at
  have i0 : (if (0 : Fin 4) ∈ [(3 : Fin 4)] then h.rev else h) = h := if_neg (by decide)
  have i1 : (if (1 : Fin 4) ∈ [(3 : Fin 4)] then μ.rev else μ) = μ := if_neg (by decide)
  have i2 : (if (2 : Fin 4) ∈ [(3 : Fin 4)] then p.rev else p) = p := if_neg (by decide)
  have i3 : (if (3 : Fin 4) ∈ [(3 : Fin 4)] then q.rev else q) = q.rev := if_pos (by decide)
  rw [hz]
  clear hz
  unfold hostBias
  refine congrArg₂ Ideal.div (congrArg₂ (· - ·) ((gather_at _ _ _ _ _).trans ?_) ((gather_at _ _ _ _ _).trans ?_)) rfl
  · refine pick _ _ (Fin.ext ?_) i0 i1
    show ((if (2 : Fin 4) ∈ [(3 : Fin 4)] then p.rev else p).val * 257 + (1 + (if (3 : Fin 4) ∈ [(3 : Fin 4)] then q.rev else q).val)) % 256 = p.val + 128 - q.val
    rw [i2, i3, Fin.val_rev]
    omega
  · exact pick _ _ rfl i0 i1

end Stages

end Cert.Attn
-- ==== Proof.Bands.lean ====
/-
  What the host leaves in the arrays the kernel reads, at an index.
-/
module

public import proofs.«01_k».proof.Proof.Host
public import Idealize.ShloMosaic.Lib.StableHlo.ReadAt
public import Idealize.ShloMosaic.Lib.IdealHost

@[expose] public section

set_option maxRecDepth 16384

noncomputable section

namespace Cert.Attn

open Idealize.ShloMosaic Cert.KernelIdeal Cert.KernelIdeal.Gen
open Idealize.ShloMosaic (ix0 ix1 ix2 ix3 ix4)

section Stages
variable (W : Valuation τ sig (Elt Ideal))

/-- The bias of row `r` against column `k` of the two tiles a query tile meets last, from the
blocks on the diagonal (`f`) and the blocks just before it (`g`). -/
def bandBias (f g : S16x2x128x128.Idx → EReal) (h : Fin 16) (μ : Fin 2) (r : Fin 512) (k : Fin 1024) : EReal :=
  if k.val < 512 then
    if r.val / 128 = 0 ∧ k.val / 128 = 3 then g (ix4 h μ ⟨r % 128, by omega⟩ ⟨k % 128, by omega⟩) else 0
  else if r.val < k.val - 512 then ⊥
  else if r.val / 128 = (k.val - 512) / 128 then f (ix4 h μ ⟨r % 128, by omega⟩ ⟨(k - 512) % 128, by omega⟩)
  else if r.val / 128 = (k.val - 512) / 128 + 1 then g (ix4 h μ ⟨r % 128, by omega⟩ ⟨(k - 512) % 128, by omega⟩)
  else 0

theorem select_and {α : Type} (p q : Prop) [Decidable p] [Decidable q] (a b : α) :
    Scalar.select (IntOp.andi (BitVec.ofBool (decide p)) (BitVec.ofBool (decide q))) a b = if p ∧ q then a else b := by
  by_cases h : p <;> by_cases h' : q <;> simp [Scalar.select, IntOp.andi, h, h']

theorem succ_word (a : ℕ) : IntOp.addi (BitVec.ofNat 32 a) 1#32 = BitVec.ofNat 32 (a + 1) := by
  show BitVec.ofNat 32 a + 1#32 = _
  rw [BitVec.ofNat_add]

/-- The host's words for it. -/
def bandWords (f g : S16x2x128x128.Idx → EReal) (c : BitVec 32) (z n : EReal) (h : Fin 16) (μ : Fin 2) (r : Fin 512) (k : Fin 1024) : EReal :=
  if _ : k.val < 512 then
    Scalar.select (IntOp.andi (IntOp.cmpi CmpIPredicate.eq (band c r.val) 0#32) (IntOp.cmpi CmpIPredicate.eq (band c k.val) 3#32))
      (g (ix4 h μ ⟨r % 128, by omega⟩ ⟨k % 128, by omega⟩)) z
  else
    Scalar.select (IntOp.cmpi CmpIPredicate.slt (BitVec.ofNat 32 r.val) (BitVec.ofNat 32 (k.val - 512))) n
      (Scalar.select (IntOp.cmpi CmpIPredicate.eq (band c r.val) (band c (k.val - 512)))
        (f (ix4 h μ ⟨r % 128, by omega⟩ ⟨(k - 512) % 128, by omega⟩))
        (Scalar.select (IntOp.cmpi CmpIPredicate.eq (band c r.val) (IntOp.addi (band c (k.val - 512)) 1#32))
          (g (ix4 h μ ⟨r % 128, by omega⟩ ⟨(k - 512) % 128, by omega⟩)) z))

theorem bandWords_eq (f g : S16x2x128x128.Idx → EReal) (h : Fin 16) (μ : Fin 2) (r : Fin 512) (k : Fin 1024) :
    bandWords f g 128#32 0 ⊥ h μ r k = bandBias f g h μ r k := by
  have hk := k.isLt
  have hr := r.isLt
  unfold bandWords bandBias
  have hq : ∀ x y : ℕ, x < 512 → y < 4096 → IntOp.cmpi CmpIPredicate.eq (band 128#32 x) (BitVec.ofNat 32 y) = BitVec.ofBool (decide (x / 128 = y)) := by
    intro x y hx hy
    rw [band_eq x hx]
    exact eq_word _ _ (by omega) hy
  by_cases hc : k.val < 512
  · rw [dif_pos hc, if_pos hc, hq r.val 0 hr (by norm_num), hq k.val 3 hc (by norm_num), select_and]
  · have hk' : k.val - 512 < 512 := by omega
    rw [dif_neg hc, if_neg hc, band_eq (k.val - 512) hk', succ_word, hq r.val _ hr (by omega), hq r.val _ hr (by omega),
      slt_word r.val (k.val - 512) (by omega) (by omega), select_decide, select_decide, select_decide]

theorem last_words (h : Fin 16) (μ : Fin 2) (r : Fin 512) (k : Fin 1024) :
    (StableHlo.after (List.flatten [hostOps0_6, hostOps0_7, hostOps0_8, hostOps0_9, hostOps0_10, hostOps0_11, hostOps0_12, hostOps0_13, hostOps0_14, hostOps0_15, hostOps0_16, hostOps0_17]) W (Proc.devRef .tc main_v94) : S16x2x512x1024.Idx → EReal) (ix4 h μ r k)
      = bandWords (W (Proc.devRef .tc main_v57)) (W (Proc.devRef .tc main_v59)) (id (constantI S_ 32 128#32) ix0) (id (constant (F := Ideal) S_ FTy.f32 0#32) ix0) (id (constant (F := Ideal) S_ FTy.f32 4286578688#32) ix0) h μ r k := by
  obtain ⟨z, hz⟩ : ∃ z, z = bandWords (W (Proc.devRef .tc main_v57)) (W (Proc.devRef .tc main_v59)) (id (constantI S_ 32 128#32) ix0) (id (constant (F := Ideal) S_ FTy.f32 0#32) ix0) (id (constant (F := Ideal) S_ FTy.f32 4286578688#32) ix0) h μ r k := ⟨_, rfl⟩
  rw [← hz]
  after_reads_at
  rw [hz]
  clear hz
  unfold bandWords band
  rfl

theorem last_v94 (h : Fin 16) (μ : Fin 2) (r : Fin 512) (k : Fin 1024) :
    (StableHlo.after (List.flatten [hostOps0_6, hostOps0_7, hostOps0_8, hostOps0_9, hostOps0_10, hostOps0_11, hostOps0_12, hostOps0_13, hostOps0_14, hostOps0_15, hostOps0_16, hostOps0_17]) W (Proc.devRef .tc main_v94) : S16x2x512x1024.Idx → EReal) (ix4 h μ r k)
      = bandBias (W (Proc.devRef .tc main_v57)) (W (Proc.devRef .tc main_v59)) h μ r k := by
  have hc : (id (constantI S_ 32 128#32) ix0 : BitVec 32) = 128#32 := rfl
  have hz : id (constant (F := Ideal) S_ FTy.f32 0#32) ix0 = (0 : EReal) := Ideal.ofBits_zero_f32
  have hn : id (constant (F := Ideal) S_ FTy.f32 4286578688#32) ix0 = (⊥ : EReal) := by
    show Ideal.ofBits .f32 0xFF800000#32 = ⊥
    simp [Ideal.ofBits, Ideal.ieee]
  refine (last_words W h μ r k).trans ?_
  rw [hc, hz, hn]
  exact bandWords_eq _ _ h μ r k

end Stages

end Cert.Attn
-- ==== Proof.Entry.lean ====
/-
  What the kernel is entered with, at an index, in terms of the arguments.
-/
module

public import proofs.«01_k».proof.Proof.Bands

@[expose] public section

set_option maxRecDepth 16384

noncomputable section

namespace Cert.Attn

open Idealize.ShloMosaic Cert.KernelIdeal Cert.KernelIdeal.Gen
open Idealize.ShloMosaic (ix0 ix1 ix2 ix3 ix4)

theorem after_two (a b : List (HloOp τ sig (Elt Ideal))) (W : Valuation τ sig (Elt Ideal)) :
    StableHlo.after (a ++ b) W = StableHlo.after b (StableHlo.after a W) := by
  induction a generalizing W with
  | nil => rfl
  | cons op l ih => exact ih _

theorem flat_eq (a b c d e f g h i j k l n o p q r s : List (HloOp τ sig (Elt Ideal))) :
    List.flatten [a, b, c, d, e, f, g, h, i, j, k, l, n, o, p, q, r, s] = a ++ List.flatten [b, c, d, e, f, g, h, i, j, k, l, n, o, p, q, r, s] := rfl

section Entry
variable (m : (ℓ : Loc nD τ sig) → Buf (Elt Ideal) ℓ) (c : Dev nD)

theorem V_q (R : Fin 16384) (y : Fin 4096) :
    (V m c main_v14 : S16384x4096.Idx → EReal) (ix2 R y)
      = Ideal.div ((m (c, Proc.devRef .tc main_arg0) : S16384x4096.Idx → EReal) (ix2 R y)) (Ideal.sqrt (Ideal.ofBits .f32 0x43000000#32) * Ideal.log (Ideal.ofBits .f32 0x40000000#32)) := by
  unfold V
  after_reads_at

theorem V_kv (R : Fin 16384) (y : Fin 8192) :
    (V m c main_v15 : S16384x8192.Idx → EReal) (ix2 R y) = (m (c, Proc.devRef .tc main_arg1) : S16384x8192.Idx → EReal) (ix2 R y) := by
  unfold V
  after_reads_at

theorem V_gain (d : Fin 256) :
    (V m c main_v96 : S1x256.Idx → EReal) (ix2 0 d) = (m (c, Proc.devRef .tc main_arg7) : S1x256.Idx → EReal) (ix2 0 d) := by
  unfold V
  after_reads_at

theorem V_lam0 (y : Fin 128) :
    (V m c main_v8 : S4x128.Idx → EReal) (ix2 0 y) = (m (c, Proc.devRef .tc main_arg3) : S1x128.Idx → EReal) (ix2 0 y) := by
  unfold V
  after_reads_at
  rw [StableHlo.unary_result']
  unfold StableHlo.upto
  rw [flat_eq]
  simp only [List.take_succ_cons, List.cons_append, List.take_zero]
  after_reads_at

theorem V_lam1 (y : Fin 128) :
    (V m c main_v8 : S4x128.Idx → EReal) (ix2 1 y) = (m (c, Proc.devRef .tc main_arg4) : S1x128.Idx → EReal) (ix2 0 y) := by
  unfold V
  after_reads_at
  rw [StableHlo.unary_result']
  unfold StableHlo.upto
  rw [flat_eq]
  simp only [List.take_succ_cons, List.cons_append, List.take_zero]
  after_reads_at

theorem V_lam2 (y : Fin 128) :
    (V m c main_v8 : S4x128.Idx → EReal) (ix2 2 y) = (m (c, Proc.devRef .tc main_arg5) : S1x128.Idx → EReal) (ix2 0 y) := by
  unfold V
  after_reads_at
  rw [StableHlo.unary_result']
  unfold StableHlo.upto
  rw [flat_eq]
  simp only [List.take_succ_cons, List.cons_append, List.take_zero]
  after_reads_at

theorem V_lam3 (y : Fin 128) :
    (V m c main_v8 : S4x128.Idx → EReal) (ix2 3 y) = (m (c, Proc.devRef .tc main_arg6) : S1x128.Idx → EReal) (ix2 0 y) := by
  unfold V
  after_reads_at
  rw [StableHlo.unary_result']
  unfold StableHlo.upto
  rw [flat_eq]
  simp only [List.take_succ_cons, List.cons_append, List.take_zero]
  after_reads_at

theorem host_row (W : Valuation τ sig (Elt Ideal)) (t : Fin 256) :
    hostRow (StableHlo.after (List.flatten [hostOps0, hostOps0_1]) W (Proc.devRef .tc main_v34)) t = rowOf t := by
  have key : ∀ (b : S256.Idx → BitVec 32), b (ix1 t) = bucket t → hostRow b t = rowOf t := by
    intro b hb
    refine Fin.ext ?_
    show min (Scalar.select (IntOp.cmpi CmpIPredicate.slt (b (ix1 t)) 0#32) (IntOp.addi (b (ix1 t)) 32#32) (b (ix1 t))).toInt.toNat 31 = _
    rw [hb]
    rfl
  exact key _ (first_v34 W t)

theorem V_bias (x : S32x16x2.Idx → EReal) (hx : x = m (c, Proc.devRef .tc main_arg2)) (h : Fin 16) (μ : Fin 2) (r : Fin 512) (k : Fin 1024)  :
    ∃ f g : S16x2x128x128.Idx → EReal, (∀ h μ p q, f (ix4 h μ p q) = Ideal.div (x (ix3 (rowOf ((p.val + 256 - q.val) % 256)) h μ) - x (ix3 (rowOf 128) h μ)) (Ideal.log (Ideal.ofBits FTy.f32 0x40000000#32)))
      ∧ (∀ h μ p q, g (ix4 h μ p q) = Ideal.div (x (ix3 (rowOf (p.val + 128 - q.val)) h μ) - x (ix3 (rowOf 128) h μ)) (Ideal.log (Ideal.ofBits FTy.f32 0x40000000#32)))
      ∧ (V m c main_v94 : S16x2x512x1024.Idx → EReal) (ix4 h μ r k) = bandBias f g h μ r k := by
  refine ⟨StableHlo.after (List.flatten [hostOps0_2, hostOps0_3, hostOps0_4, hostOps0_5]) (StableHlo.after (List.flatten [hostOps0, hostOps0_1]) fun b => m (c, b)) (Proc.devRef .tc main_v57), StableHlo.after (List.flatten [hostOps0_2, hostOps0_3, hostOps0_4, hostOps0_5]) (StableHlo.after (List.flatten [hostOps0, hostOps0_1]) fun b => m (c, b)) (Proc.devRef .tc main_v59), ?_, ?_, ?_⟩
  rotate_left 2
  · unfold V
    have e : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] : List (HloOp τ sig (Elt Ideal)))
      = List.flatten [hostOps0, hostOps0_1] ++ (List.flatten [hostOps0_2, hostOps0_3, hostOps0_4, hostOps0_5] ++ List.flatten [hostOps0_6, hostOps0_7, hostOps0_8, hostOps0_9, hostOps0_10, hostOps0_11, hostOps0_12, hostOps0_13, hostOps0_14, hostOps0_15, hostOps0_16, hostOps0_17]) := by
      rw [← List.flatten_append, ← List.flatten_append]
      rfl
    rw [e, after_two, after_two]
    exact last_v94 _ h μ r k
  · intro h μ p q
    refine (mid_v57 _ h μ p q).trans ?_
    unfold hostBias
    rw [host_row, host_row, first_arg2, hx]
    rfl
  · intro h μ p q
    refine (mid_v59 _ h μ p q).trans ?_
    unfold hostBias
    rw [host_row, host_row, first_arg2, hx]
    rfl

end Entry

end Cert.Attn
-- ==== Proof.Blocks.lean ====
/-
  The blocks a grid point reads and writes, as parts of their arrays.
-/
module

public import proofs.«01_k».proof.Proof.Entry

@[expose] public section

set_option maxRecDepth 16384

noncomputable section

namespace Cert.Attn

open Idealize.ShloMosaic Cert.KernelIdeal Cert.KernelIdeal.Gen
open Idealize.ShloMosaic (ix0 ix1 ix2 ix3 ix4)

theorem head_lt (i : grid0.Coords) : (i 0).val < 16 := (i 0).isLt
theorem tile_lt (i : grid0.Coords) : (i 1).val < 32 := (i 1).isLt

theorem word_nat (a : ℕ) (h : a < 64) : (BitVec.ofNat 32 a).toNat = a := by
  rw [BitVec.toNat_ofNat, Nat.mod_eq_of_lt (by omega)]

theorem tr0 (i : grid0.Coords) : cc0_transform_0 i 0 = (i 1).val ∧ cc0_transform_0 i 1 = (i 0).val :=
  ⟨word_nat _ (by have := tile_lt i; omega), word_nat _ (by have := head_lt i; omega)⟩
theorem tr1 (i : grid0.Coords) : cc0_transform_1 i 0 = 0 ∧ cc0_transform_1 i 1 = (i 0).val :=
  ⟨rfl, word_nat _ (by have := head_lt i; omega)⟩
theorem tr2 (i : grid0.Coords) : cc0_transform_2 i 0 = 0 ∧ cc0_transform_2 i 1 = 16 + (i 0).val := by
  refine ⟨rfl, ?_⟩
  have h := head_lt i
  show (16#32 + BitVec.ofNat 32 (i 0).val).toNat = _
  rw [BitVec.toNat_add, word_nat 16 (by omega), word_nat (i 0).val (by omega)]
  omega
theorem tr3 (i : grid0.Coords) : cc0_transform_3 i 0 = (i 0).val ∧ cc0_transform_3 i 1 = 0 ∧ cc0_transform_3 i 2 = 0 ∧ cc0_transform_3 i 3 = 0 :=
  ⟨word_nat _ (by have := head_lt i; omega), rfl, rfl, rfl⟩
theorem tr6 (i : grid0.Coords) : cc0_transform_6 i 0 = (i 1).val ∧ cc0_transform_6 i 1 = (i 0).val :=
  ⟨word_nat _ (by have := tile_lt i; omega), word_nat _ (by have := head_lt i; omega)⟩

section Blocks
variable (m : (ℓ : Loc nD τ sig) → Buf (Elt Ideal) ℓ) (c : Dev nD) (t : Fin cfg0.N)

theorem block0 (r : Fin 512) (y : Fin 256) (R : Fin 16384) (Y : Fin 4096) (hR : R.val = (grid0.coords t 1).val * 512 + r.val)
    (hY : Y.val = (grid0.coords t 0).val * 256 + y.val) : iblk m c 0 t (ix2 r y) = (V m c main_v14 : S16384x4096.Idx → EReal) (ix2 R Y) := by
  obtain ⟨e0, e1⟩ := tr0 (grid0.coords t)
  show V m c main_v14 (((cfg0.win 0).blk t).view.emb (ix2 r y)) = _
  refine congrArg (V m c main_v14) (funext fun a => Fin.ext ?_)
  match a with
  | ⟨0, _⟩ => show cc0_transform_0 (grid0.coords t) 0 * 512 + 1 * r.val = R.val; rw [e0]; omega
  | ⟨1, _⟩ => show cc0_transform_0 (grid0.coords t) 1 * 256 + 1 * y.val = Y.val; rw [e1]; omega

theorem block1 (j : Fin 16384) (y : Fin 256) (Y : Fin 8192) (hY : Y.val = (grid0.coords t 0).val * 256 + y.val) :
    iblk m c 1 t (ix2 j y) = (V m c main_v15 : S16384x8192.Idx → EReal) (ix2 j Y) := by
  obtain ⟨e0, e1⟩ := tr1 (grid0.coords t)
  show V m c main_v15 (((cfg0.win 1).blk t).view.emb (ix2 j y)) = _
  refine congrArg (V m c main_v15) (funext fun a => Fin.ext ?_)
  match a with
  | ⟨0, _⟩ => show cc0_transform_1 (grid0.coords t) 0 * 16384 + 1 * j.val = j.val; rw [e0]; omega
  | ⟨1, _⟩ => show cc0_transform_1 (grid0.coords t) 1 * 256 + 1 * y.val = Y.val; rw [e1]; omega

theorem block2 (j : Fin 16384) (y : Fin 256) (Y : Fin 8192) (hY : Y.val = 4096 + ((grid0.coords t 0).val * 256 + y.val)) :
    iblk m c 2 t (ix2 j y) = (V m c main_v15 : S16384x8192.Idx → EReal) (ix2 j Y) := by
  obtain ⟨e0, e1⟩ := tr2 (grid0.coords t)
  show V m c main_v15 (((cfg0.win 2).blk t).view.emb (ix2 j y)) = _
  refine congrArg (V m c main_v15) (funext fun a => Fin.ext ?_)
  match a with
  | ⟨0, _⟩ => show cc0_transform_2 (grid0.coords t) 0 * 16384 + 1 * j.val = j.val; rw [e0]; omega
  | ⟨1, _⟩ => show cc0_transform_2 (grid0.coords t) 1 * 256 + 1 * y.val = Y.val; rw [e1]; omega

theorem block3 (μ : Fin 2) (r : Fin 512) (k : Fin 1024) (h : Fin 16) (hh : h.val = (grid0.coords t 0).val) :
    iblk m c 3 t (ix4 0 μ r k) = (V m c main_v94 : S16x2x512x1024.Idx → EReal) (ix4 h μ r k) := by
  obtain ⟨e0, e1, e2, e3⟩ := tr3 (grid0.coords t)
  show V m c main_v94 (((cfg0.win 3).blk t).view.emb (ix4 0 μ r k)) = _
  refine congrArg (V m c main_v94) (funext fun a => Fin.ext ?_)
  match a with
  | ⟨0, _⟩ => show cc0_transform_3 (grid0.coords t) 0 * 1 + 1 * 0 = h.val; rw [e0]; omega
  | ⟨1, _⟩ => show cc0_transform_3 (grid0.coords t) 1 * 2 + 1 * μ.val = μ.val; rw [e1]; omega
  | ⟨2, _⟩ => show cc0_transform_3 (grid0.coords t) 2 * 512 + 1 * r.val = r.val; rw [e2]; omega
  | ⟨3, _⟩ => show cc0_transform_3 (grid0.coords t) 3 * 1024 + 1 * k.val = k.val; rw [e3]; omega

theorem block4 (p : Fin 4) (y : Fin 128) : iblk m c 4 t (ix2 p y) = (V m c main_v8 : S4x128.Idx → EReal) (ix2 p y) := by
  show V m c main_v8 (((cfg0.win 4).blk t).view.emb (ix2 p y)) = _
  refine congrArg (V m c main_v8) (funext fun a => Fin.ext ?_)
  match a with
  | ⟨0, _⟩ => show 0 * 4 + 1 * p.val = p.val; omega
  | ⟨1, _⟩ => show 0 * 128 + 1 * y.val = y.val; omega

theorem block5 (d : Fin 256) : iblk m c 5 t (ix2 0 d) = (V m c main_v96 : S1x256.Idx → EReal) (ix2 0 d) := by
  show V m c main_v96 (((cfg0.win 5).blk t).view.emb (ix2 0 d)) = _
  refine congrArg (V m c main_v96) (funext fun a => Fin.ext ?_)
  match a with
  | ⟨0, _⟩ => show 0 * 1 + 1 * 0 = 0; omega
  | ⟨1, _⟩ => show 0 * 256 + 1 * d.val = d.val; omega

theorem emb6 (r : Fin 512) (d : Fin 256) (R : Fin 16384) (Y : Fin 4096) (hR : R.val = (grid0.coords t 1).val * 512 + r.val)
    (hY : Y.val = (grid0.coords t 0).val * 256 + d.val) : ((cfg0.win 6).blk t).view.emb (ix2 r d) = ix2 R Y := by
  obtain ⟨e0, e1⟩ := tr6 (grid0.coords t)
  refine funext fun a => Fin.ext ?_
  match a with
  | ⟨0, _⟩ => show cc0_transform_6 (grid0.coords t) 0 * 512 + 1 * r.val = R.val; rw [e0]; omega
  | ⟨1, _⟩ => show cc0_transform_6 (grid0.coords t) 1 * 256 + 1 * d.val = Y.val; rw [e1]; omega

/-- The run's result, when every point's block is the block of one array. -/
theorem result_of (G : S16384x4096.Idx → EReal)
    (hG : ∀ (t : Fin cfg0.N) (r : Fin 512) (d : Fin 256) (R : Fin 16384) (Y : Fin 4096), R.val = (grid0.coords t 1).val * 512 + r.val →
      Y.val = (grid0.coords t 0).val * 256 + d.val → outsAt m c t (ix2 r d) = G (ix2 R Y)) :
    (dats m 0 c).arrAt 6 cfg0.N = G := by
  refine (dats m 0 c).arrAt_eq_of_cover 6 G (fun t _ => ?_) fun i => ?_
  · have h0 := head_lt (grid0.coords t)
    have h1 := tile_lt (grid0.coords t)
    show (cfg0.win 6).cut (grid0.coords t) ((dats m 0 c).after 6 t) = _
    rw [after_6]
    refine funext fun x => ?_
    show outsAt m c t x = G (((cfg0.win 6).blk t).view.emb x)
    obtain ⟨r, d, rfl⟩ : ∃ (r : Fin 512) (d : Fin 256), x = ix2 r d := ⟨x 0, x 1, funext fun a => match a with | ⟨0, _⟩ => rfl | ⟨1, _⟩ => rfl⟩
    rw [emb6 t r d ⟨(grid0.coords t 1).val * 512 + r.val, by omega⟩ ⟨(grid0.coords t 0).val * 256 + d.val, by omega⟩ rfl rfl]
    exact hG t r d _ _ rfl rfl
  · have hR : (i 0).val < 16384 := (i 0).isLt
    have hY : (i 1).val < 4096 := (i 1).isLt
    have key : ∀ t : Fin 512, (grid0.coords ((finCongr N_0).symm t) 0).val = t.val / 32 ∧ (grid0.coords ((finCongr N_0).symm t) 1).val = t.val % 32 := by decide +kernel
    obtain ⟨k0, k1⟩ := key ⟨(i 1).val / 256 * 32 + (i 0).val / 512, by omega⟩
    refine ⟨(finCongr N_0).symm ⟨(i 1).val / 256 * 32 + (i 0).val / 512, by omega⟩, flush0_6 _, ?_⟩
    have h := ((cfg0.win 6).blk ((finCongr N_0).symm ⟨(i 1).val / 256 * 32 + (i 0).val / 512, by omega⟩)).view.emb_mem_set
      (ix2 (⟨(i 0).val % 512, by omega⟩ : Fin 512) (⟨(i 1).val % 256, by omega⟩ : Fin 256))
    have e := emb6 ((finCongr N_0).symm ⟨(i 1).val / 256 * 32 + (i 0).val / 512, by omega⟩) ⟨(i 0).val % 512, by omega⟩ ⟨(i 1).val % 256, by omega⟩ ⟨(i 0).val, hR⟩ ⟨(i 1).val, hY⟩
      (by rw [k1]; show (i 0).val = ((i 1).val / 256 * 32 + (i 0).val / 512) % 32 * 512 + (i 0).val % 512; omega)
      (by rw [k0]; show (i 1).val = ((i 1).val / 256 * 32 + (i 0).val / 512) / 32 * 256 + (i 1).val % 256; omega)
    have hi : i = ix2 (⟨(i 0).val, hR⟩ : Fin 16384) (⟨(i 1).val, hY⟩ : Fin 4096) := funext fun a => match a with | ⟨0, _⟩ => rfl | ⟨1, _⟩ => rfl
    rw [e.trans hi.symm] at h
    exact h

end Blocks

end Cert.Attn
-- ==== Proof.Reads.lean ====
/-
  The operations of one query tile read at an index, over exact arithmetic.
-/
module

public import proofs.«01_k».proof.Proof.Model
public import Idealize.ShloMosaic.Lib.Pointwise
public import Idealize.ShloMosaic.Lib.IdealHost

@[expose] public section

set_option maxRecDepth 16384

noncomputable section

namespace Cert.Attn

open Idealize.ShloMosaic Cert.KernelIdeal Cert.KernelIdeal.Gen
open Idealize.ShloMosaic (ix1 ix2 ix3 ix4)

theorem flat_at (x : Vec Ideal S1x512x128 .f32) (r : Fin 512) (l : Fin 128) : flat x (ix2 r l) = x (ix3 0 r l) := by
  pointwise [flat]

theorem nextMax_at (m : Vec Ideal S1x512x128 .f32) (R : FVec Ideal S512x128 .f32) (r : Fin 512) (l : Fin 128) :
    nextMax m R (ix2 r l) = max (m (ix3 0 r l)) (R (ix2 r l)) := by
  pointwise [nextMax, flat]

theorem decay_at (m : Vec Ideal S1x512x128 .f32) (R : FVec Ideal S512x128 .f32) (r : Fin 512) (l : Fin 128) :
    decay m R (ix2 r l) = Ideal.exp2 (m (ix3 0 r l) - max (m (ix3 0 r l)) (R (ix2 r l))) := by
  pointwise [decay, nextMax, flat]
  rfl

theorem weights_at (s : FVec Ideal S512x512 .bf16) (M : FVec Ideal S512x128 .f32) (r : Fin 512) (c : Fin 512) (μ : EReal)
    (h : ∀ l, M (ix2 r l) = μ) : weights s M (ix2 r c) = Ideal.exp2 (s (ix2 r c) - μ) := by
  pointwise [weights]
  split_ifs <;> (rw [h]; rfl)

theorem quad_at (p : FVec Ideal S512x512 .bf16) (r : Fin 512) (l : Fin 128) :
    quad p (ix2 r l) = (p (ix2 r ⟨l.val, by omega⟩) + p (ix2 r ⟨128 + l.val, by omega⟩)) + (p (ix2 r ⟨256 + l.val, by omega⟩) + p (ix2 r ⟨384 + l.val, by omega⟩)) := by
  pointwise [quad]

theorem rowSum_at (x : FVec Ideal S512x128 .f32) (r : Fin 512) : rowSum x (ix2 r 0) = ∑ l : Fin 128, x (ix2 r l) := by
  pointwise [rowSum]

theorem prod512_at (p : FVec Ideal S512x512 .bf16) (v : FVec Ideal S512x256 .bf16) (r : Fin 512) (d : Fin 256) :
    prod512 p v (ix2 r d) = ∑ k : Fin 512, p (ix2 r k) * v (ix2 k d) := by
  pointwise [prod512]

theorem newL_at (a : FVec Ideal S512x128 .f32) (mass : FVec Ideal S512x1 .f32) (L : Vec Ideal S1x512x128 .f32) (r : Fin 512) (l : Fin 128) :
    newL a mass L (ix3 0 r l) = a (ix2 r l) * L (ix3 0 r l) + mass (ix2 r 0) := by
  pointwise [newL, flat]

theorem newAcc_at (a : FVec Ideal S512x128 .f32) (pv : FVec Ideal S512x256 .f32) (acc : Vec Ideal S1x512x256 .f32) (r : Fin 512) (d : Fin 256)
    (α : EReal) (h : ∀ l, a (ix2 r l) = α) :
    newAcc a pv acc (ix3 0 r d) = acc (ix3 0 r d) * α + pv (ix2 r d) := by
  pointwise [newAcc]
  split_ifs <;> rw [h]

theorem ofBits_ninf_bf16 : Ideal.ofBits .bf16 0xFF80#16 = ⊥ := by
  simp [Ideal.ofBits, Ideal.ieee]

theorem top1024_at (s : FVec Ideal S512x1024 .bf16) (r : Fin 512) : top1024 s (ix2 r 0) = Finset.univ.fold max ⊥ fun c : Fin 1024 => s (ix2 r c) := by
  pointwise [top1024, ofBits_ninf_bf16]

theorem top512_at (s : FVec Ideal S512x512 .bf16) (r : Fin 512) : top512 s (ix2 r 0) = Finset.univ.fold max ⊥ fun c : Fin 512 => s (ix2 r c) := by
  pointwise [top512, ofBits_ninf_bf16]

theorem spread_at (x : FVec Ideal S512x1 .f32) (r : Fin 512) (l : Fin 128) : spread x (ix2 r l) = x (ix2 r 0) := by
  pointwise [spread]

theorem dots1024_at (q : Vec Ideal S512x128 .bf16) (k : Vec Ideal S1024x128 .bf16) (r : Fin 512) (c : Fin 1024) :
    dots1024 q k (ix2 r c) = ∑ x : Fin 128, q (ix2 r x) * k (ix2 c x) := by
  pointwise [dots1024]

theorem dots512_at (q k : Vec Ideal S512x128 .bf16) (r : Fin 512) (c : Fin 512) :
    dots512 q k (ix2 r c) = ∑ x : Fin 128, q (ix2 r x) * k (ix2 c x) := by
  pointwise [dots512]

theorem biased1024_at (q : Vec Ideal S512x128 .bf16) (k : Vec Ideal S1024x128 .bf16) (b : Vec Ideal S1x1x512x1024 .f32) (r : Fin 512) (c : Fin 1024) :
    biased1024 q k b (ix2 r c) = (∑ x : Fin 128, q (ix2 r x) * k (ix2 c x)) + b (ix4 0 0 r c) := by
  pointwise [biased1024, dots1024]

theorem biased512_at (q k : Vec Ideal S512x128 .bf16) (b : Vec Ideal S1x1x512x512 .f32) (r : Fin 512) (c : Fin 512) :
    biased512 q k b (ix2 r c) = (∑ x : Fin 128, q (ix2 r x) * k (ix2 c x)) + b (ix4 0 0 r c) := by
  pointwise [biased512, dots512]

theorem unstored_scores (s : FVec Ideal S512x1024 .bf16) : shapeCast S512x1024 (storedScores s) shapeCasts_S1x1x512x1024_S512x1024 = s := by
  exact shapeCast_shapeCast s _ _

theorem unstored_top_at (s : FVec Ideal S512x1024 .bf16) (r : Fin 512) (l : Fin 128) :
    shapeCast S512x128 (storedTop s) shapeCasts_S1x1x512x128_S512x128 (ix2 r l) = top1024 s (ix2 r 0) := by
  pointwise [storedTop, spread]

end Cert.Attn
-- ==== Proof.Sums.lean ====
/-
  What one row of a query tile keeps of one map after some keys: the running maximum is some real number `M`, and the
  sums are those of `2 ^ score` over the keys so far, scaled by `2 ^ (-M)`. Taking a span in keeps this so.
-/
module

public import proofs.«01_k».proof.Proof.Reads

@[expose] public section

set_option maxRecDepth 16384

noncomputable section

namespace Cert.Attn

open Idealize.ShloMosaic Cert.KernelIdeal Cert.KernelIdeal.Gen
open Idealize.ShloMosaic (ix1 ix2 ix3 ix4)

/-- The score `x` weighs `y`: it is masked and weighs nothing, or it is a real number and weighs 2 to that power. -/
def Weighs (x : EReal) (y : ℝ) : Prop := (x = ⊥ ∧ y = 0) ∨ ∃ a : ℝ, x = (a : EReal) ∧ y = (2 : ℝ) ^ a

theorem Weighs.exp2_sub {x : EReal} {y : ℝ} (h : Weighs x y) (M : ℝ) :
    Ideal.exp2 (x - (M : EReal)) = ((y * (2 : ℝ) ^ (-M) : ℝ) : EReal) := by
  rcases h with ⟨rfl, rfl⟩ | ⟨a, rfl, rfl⟩
  · rw [EReal.bot_sub]; simp
  · rw [← EReal.coe_sub, Ideal.exp2_coe, ← Real.rpow_add two_pos, ← sub_eq_add_neg]; rfl

theorem Weighs.ne_top {x : EReal} {y : ℝ} (h : Weighs x y) : x ≠ ⊤ := by
  rcases h with ⟨rfl, rfl⟩ | ⟨a, rfl, rfl⟩
  · exact bot_ne_top
  · exact EReal.coe_ne_top a

/-- The greatest of some scores, none of them above all numbers and one of them a number, is a number. -/
theorem max_real {n : ℕ} (s : Fin n → EReal) (y : Fin n → ℝ) (h : ∀ c, Weighs (s c) (y c)) (c₀ : Fin n) (h₀ : y c₀ ≠ 0) :
    ∃ ρ : ℝ, (Finset.univ.fold max ⊥ s : EReal) = (ρ : EReal) := by
  have e : (Finset.univ.fold max ⊥ s : EReal) = Finset.univ.sup s := rfl
  have hb : Finset.univ.sup s ≠ ⊥ := by
    intro hb
    have : s c₀ ≤ ⊥ := hb ▸ Finset.le_sup (f := s) (Finset.mem_univ c₀)
    rcases h c₀ with ⟨_, h1⟩ | ⟨a, h1, _⟩
    · exact h₀ h1
    · rw [h1] at this; exact absurd (le_bot_iff.mp this) (EReal.coe_ne_bot a)
  have ht : Finset.univ.sup s ≠ ⊤ := by
    refine ne_of_lt ((Finset.sup_lt_iff bot_lt_top).2 fun c _ => lt_top_iff_ne_top.2 (h c).ne_top)
  exact ⟨(Finset.univ.sup s).toReal, by rw [e]; exact (EReal.coe_toReal ht hb).symm⟩

/-- Four blocks of 128 added lane by lane, then over the lanes, make the sum of all 512. -/
theorem sum_quad (f : Fin 512 → EReal) :
    ∑ l : Fin 128, ((f ⟨l.val, by omega⟩ + f ⟨128 + l.val, by omega⟩) + (f ⟨256 + l.val, by omega⟩ + f ⟨384 + l.val, by omega⟩))
      = ∑ c : Fin 512, f c := by
  let g : ℕ → EReal := fun n => if h : n < 512 then f ⟨n, h⟩ else 0
  have hg : ∀ c : Fin 512, f c = g c.val := fun c => by simp [g]
  simp only [hg]
  rw [Fin.sum_univ_eq_sum_range (fun n => g n) 512,
    Fin.sum_univ_eq_sum_range (fun n => (g n + g (128 + n)) + (g (256 + n) + g (384 + n))) 128]
  rw [show (512 : ℕ) = 128 + 128 + 128 + 128 from rfl, Finset.sum_range_add, Finset.sum_range_add, Finset.sum_range_add,
    Finset.sum_add_distrib, Finset.sum_add_distrib, Finset.sum_add_distrib]
  simp only [Nat.reduceAdd, add_assoc]

theorem zero128_at (r : Fin 512) (l : Fin 128) : (zero128 : FVec Ideal S512x128 .f32) (ix2 r l) = 0 := by
  pointwise [zero128]

theorem mass512_at (p : FVec Ideal S512x512 .bf16) (r : Fin 512) : mass512 p (ix2 r 0) = ∑ c : Fin 512, p (ix2 r c) := by
  rw [mass512, rowSum_at, ← sum_quad fun c => p (ix2 r c)]
  refine Finset.sum_congr rfl fun l _ => ?_
  rw [ValueIdx.addf_apply, zero128_at, zero_add, ValueIdx.extf_apply, quad_at]

theorem mass1024_at (p p' : FVec Ideal S512x512 .bf16) (r : Fin 512) :
    mass1024 p p' (ix2 r 0) = ∑ c : Fin 512, p (ix2 r c) + ∑ c : Fin 512, p' (ix2 r c) := by
  rw [mass1024, rowSum_at, ← sum_quad fun c => p (ix2 r c), ← sum_quad fun c => p' (ix2 r c), ← Finset.sum_add_distrib]
  refine Finset.sum_congr rfl fun l _ => ?_
  rw [ValueIdx.addf_apply, ValueIdx.addf_apply, zero128_at, zero_add, ValueIdx.extf_apply, ValueIdx.extf_apply, quad_at, quad_at]

/-- Row `r` of `st` holds the sums `L` and `A`, scaled. -/
def RowAt (st : Slabs Ideal) (r : Fin 512) (L : ℝ) (A : Fin 256 → ℝ) : Prop :=
  ∃ M : ℝ, (∀ l : Fin 128, st.m (ix3 0 r l) = (M : EReal)) ∧ (∀ l : Fin 128, st.l (ix3 0 r l) = ((L * (2 : ℝ) ^ (-M) : ℝ) : EReal))
    ∧ ∀ d : Fin 256, st.acc (ix3 0 r d) = ((A d * (2 : ℝ) ^ (-M) : ℝ) : EReal)

/-- How the sums change when keys of weights `y`, summed as `W` and `V`, come in under the maximum `M'`. -/
theorem row_step {st : Slabs Ideal} {r : Fin 512} {L : ℝ} {A : Fin 256 → ℝ} (h : RowAt st r L A) (R : FVec Ideal S512x128 .f32) (ρ : ℝ)
    (hR : ∀ l, R (ix2 r l) = (ρ : EReal)) :
    ∃ M M' : ℝ, (∀ l, nextMax st.m R (ix2 r l) = (M' : EReal)) ∧ (∀ l, decay st.m R (ix2 r l) = (((2 : ℝ) ^ (M - M') : ℝ) : EReal))
      ∧ ∀ (W : ℝ) (V : Fin 256 → ℝ) (mass : FVec Ideal S512x1 .f32) (pv : FVec Ideal S512x256 .f32),
        mass (ix2 r 0) = ((W * (2 : ℝ) ^ (-M') : ℝ) : EReal) → (∀ d, pv (ix2 r d) = ((V d * (2 : ℝ) ^ (-M') : ℝ) : EReal)) →
        RowAt ⟨shapeCast S1x512x128 (nextMax st.m R) shapeCasts_S512x128_S1x512x128, newL (decay st.m R) mass st.l, newAcc (decay st.m R) pv st.acc⟩
          r (L + W) (fun d => A d + V d) := by
  obtain ⟨M, hm, hl, ha⟩ := h
  have hn : ∀ l, nextMax st.m R (ix2 r l) = ((max M ρ : ℝ) : EReal) := fun l => by rw [nextMax_at, hm, hR]; exact (EReal.coe_strictMono.monotone.map_max).symm
  have hd : ∀ l, decay st.m R (ix2 r l) = (((2 : ℝ) ^ (M - max M ρ) : ℝ) : EReal) := fun l => by
    rw [decay_at, ← nextMax_at, hn, hm, ← EReal.coe_sub, Ideal.exp2_coe]; rfl
  refine ⟨M, max M ρ, hn, hd, fun W V mass pv hW hV => ⟨max M ρ, fun l => ?_, fun l => ?_, fun d => ?_⟩⟩
  · rw [← hn l]; pointwise
  · show newL _ _ _ _ = _
    rw [newL_at, hd, hl, hW, ← EReal.coe_mul, ← EReal.coe_add, EReal.coe_eq_coe_iff, add_mul]
    congr 1
    rw [mul_left_comm, ← Real.rpow_add two_pos]; congr 2; ring
  · show newAcc (decay st.m R) pv st.acc (ix3 0 r d) = (((A d + V d) * (2 : ℝ) ^ (-max M ρ) : ℝ) : EReal)
    rw [newAcc_at _ _ _ _ _ _ hd, ha, hV, ← EReal.coe_mul, ← EReal.coe_add, EReal.coe_eq_coe_iff, add_mul]
    congr 1
    rw [mul_assoc, ← Real.rpow_add two_pos]; congr 2; ring

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- 512 keys taken in. -/
theorem absorb512_row {st : Slabs Ideal} {r : Fin 512} {L : ℝ} {A : Fin 256 → ℝ} (h : RowAt st r L A) (s : FVec Ideal S512x512 .bf16)
    (R : FVec Ideal S512x128 .f32) (v : Vec Ideal S512x256 .bf16) (ρ : ℝ) (hR : ∀ l, R (ix2 r l) = (ρ : EReal))
    (y : Fin 512 → ℝ) (hs : ∀ c, Weighs (s (ix2 r c)) (y c)) (w : Fin 512 → Fin 256 → ℝ) (hv : ∀ c d, v (ix2 c d) = (w c d : EReal)) :
    RowAt (absorb512 st s R v) r (L + ∑ c, y c) (fun d => A d + ∑ c, y c * w c d) := by
  obtain ⟨M, M', hn, hd, step⟩ := row_step h R ρ hR
  have hw : ∀ c, weights s (nextMax st.m R) (ix2 r c) = ((y c * (2 : ℝ) ^ (-M') : ℝ) : EReal) := fun c => by
    rw [weights_at _ _ _ _ _ hn, (hs c).exp2_sub]
  refine step _ _ _ _ ?_ fun d => ?_
  · rw [mass512_at]; simp only [hw]; rw [coe_sum, ← Finset.sum_mul]
  · rw [ValueIdx.addf_apply, prod512_at, shapeCast_self]
    have : (zero256 : FVec Ideal S512x256 .f32) (ix2 r d) = 0 := by pointwise [zero256]
    rw [this, zero_add]
    simp only [hw, hv, ← EReal.coe_mul]
    rw [coe_sum, Finset.sum_mul]
    congr 1
    exact Finset.sum_congr rfl fun c _ => by ring

theorem half0_at (s : FVec Ideal S512x1024 .bf16) (r c : Fin 512) : half0 s (ix2 r c) = s (ix2 r ⟨c.val, by omega⟩) := by
  pointwise [half0]

theorem half1_at (s : FVec Ideal S512x1024 .bf16) (r c : Fin 512) : half1 s (ix2 r c) = s (ix2 r ⟨512 + c.val, by omega⟩) := by
  pointwise [half1]

theorem sum_halves {α : Type} [AddCommMonoid α] (f : Fin 1024 → α) :
    ∑ c : Fin 512, f ⟨c.val, by omega⟩ + ∑ c : Fin 512, f ⟨512 + c.val, by omega⟩ = ∑ c, f c :=
  (Fin.sum_univ_add (a := 512) (b := 512) f).symm

/-- 1024 keys taken in. -/
theorem absorb1024_row {st : Slabs Ideal} {r : Fin 512} {L : ℝ} {A : Fin 256 → ℝ} (h : RowAt st r L A) (s : FVec Ideal S512x1024 .bf16)
    (R : FVec Ideal S512x128 .f32) (v : Vec Ideal S1024x256 .bf16) (ρ : ℝ) (hR : ∀ l, R (ix2 r l) = (ρ : EReal))
    (y : Fin 1024 → ℝ) (hs : ∀ c, Weighs (s (ix2 r c)) (y c)) (w : Fin 1024 → Fin 256 → ℝ) (hv : ∀ c d, v (ix2 c d) = (w c d : EReal)) :
    RowAt (absorb1024 st s R v) r (L + ∑ c, y c) (fun d => A d + ∑ c, y c * w c d) := by
  obtain ⟨M, M', hn, hd, step⟩ := row_step h R ρ hR
  have hw0 : ∀ c : Fin 512, weights (half0 s) (nextMax st.m R) (ix2 r c) = ((y ⟨c.val, by omega⟩ * (2 : ℝ) ^ (-M') : ℝ) : EReal) := fun c => by
    rw [weights_at _ _ _ _ _ hn, half0_at, (hs _).exp2_sub]
  have hw1 : ∀ c : Fin 512, weights (half1 s) (nextMax st.m R) (ix2 r c) = ((y ⟨512 + c.val, by omega⟩ * (2 : ℝ) ^ (-M') : ℝ) : EReal) := fun c => by
    rw [weights_at _ _ _ _ _ hn, half1_at, (hs _).exp2_sub]
  refine step _ _ _ _ ?_ fun d => ?_
  · rw [mass1024_at]; simp only [hw0, hw1]; rw [coe_sum, coe_sum, ← EReal.coe_add, ← Finset.sum_mul, ← Finset.sum_mul, ← add_mul, sum_halves]
  · rw [ValueIdx.addf_apply, ValueIdx.addf_apply, prod512_at, prod512_at, shapeCast_self]
    have : (zero256 : FVec Ideal S512x256 .f32) (ix2 r d) = 0 := by pointwise [zero256]
    have v0 : ∀ k : Fin 512, extractStridedSlice S512x256 ![0, 0] v slices_S1024x256_o0_0_S512x256 (ix2 k d) = (w ⟨k.val, by omega⟩ d : EReal) := fun k => by
      rw [← hv]; pointwise
    have v1 : ∀ k : Fin 512, extractStridedSlice S512x256 ![512, 0] v slices_S1024x256_o512_0_S512x256 (ix2 k d) = (w ⟨512 + k.val, by omega⟩ d : EReal) := fun k => by
      rw [← hv]; pointwise
    rw [this, zero_add]
    simp only [hw0, hw1, v0, v1, ← EReal.coe_mul]
    rw [coe_sum, coe_sum, ← EReal.coe_add, ← sum_halves (fun c => y c * w c d), add_mul, Finset.sum_mul, Finset.sum_mul]
    congr 2
    · exact Finset.sum_congr rfl fun c _ => by ring
    · exact Finset.sum_congr rfl fun c _ => by ring

end Cert.Attn
-- ==== Proof.Spans.lean ====
/-
  Where the kernel's spans lie: its conditions, trip counts and offsets as numbers of the query tile.
-/
module

public import proofs.«01_k».proof.Proof.Body

@[expose] public section

set_option maxRecDepth 16384

noncomputable section

namespace Cert.Attn

open Idealize.ShloMosaic Cert.KernelIdeal Cert.KernelIdeal.Gen

/-- The conditions and the trip count, for query tile `n` with `n - 1` far tiles. -/
theorem plan (i : grid0.Coords) :
    (k0_cond1 i = 1#1 ↔ 2 ≤ (i 1).val - 1) ∧ ((k0_t1_loop i).trips = ((i 1).val - 1) / 4)
      ∧ (k0_cond2 i = 1#1 ↔ ((i 1).val - 1) / 2 % 2 = 1) ∧ (k0_cond3 i = 1#1 ↔ ((i 1).val - 1) % 2 = 1)
      ∧ (k0_cond4 i = 1#1 ↔ (i 1).val = 0) ∧ (k0_cond5 i = 1#1 ↔ 1 ≤ (i 1).val) := by
  have key : ∀ n : Fin 32,
      (k0_cond1 (tileAt n) = 1#1 ↔ 2 ≤ n.val - 1) ∧ ((k0_t1_loop (tileAt n)).trips = (n.val - 1) / 4)
      ∧ (k0_cond2 (tileAt n) = 1#1 ↔ (n.val - 1) / 2 % 2 = 1) ∧ (k0_cond3 (tileAt n) = 1#1 ↔ (n.val - 1) % 2 = 1)
      ∧ (k0_cond4 (tileAt n) = 1#1 ↔ n.val = 0) ∧ (k0_cond5 (tileAt n) = 1#1 ↔ 1 ≤ n.val) := by decide +kernel
  exact key (i 1)

theorem off_first (i : grid0.Coords) : k0_cond1 i = 1#1 → k0_off1 i = ![0, 0] ∧ k0_off2 i = ![0, 128] := by
  have key : ∀ n : Fin 32, k0_cond1 (tileAt n) = 1#1 → k0_off1 (tileAt n) = ![0, 0] ∧ k0_off2 (tileAt n) = ![0, 128] := by decide +kernel
  exact key (i 1)

theorem off_trip (i : grid0.Coords) : ∀ k : Fin (k0_t1_loop i).trips,
    k0_off3 i k = ![1024 * (2 * k.val), 0] ∧ k0_off6 i k = ![1024 * (2 * k.val + 1), 0]
      ∧ k0_off4 i k 1#32 = ![1024 * (2 * k.val + 1), 0] ∧ k0_off5 i k 1#32 = ![1024 * (2 * k.val + 1), 128]
      ∧ k0_off4 i k 2#32 = ![1024 * min (2 * k.val + 2) (((i 1).val - 1) / 2 - 1), 0]
      ∧ k0_off5 i k 2#32 = ![1024 * min (2 * k.val + 2) (((i 1).val - 1) / 2 - 1), 128] := by
  have key : ∀ n : Fin 32, ∀ k : Fin (k0_t1_loop (tileAt n)).trips,
    k0_off3 (tileAt n) k = ![1024 * (2 * k.val), 0] ∧ k0_off6 (tileAt n) k = ![1024 * (2 * k.val + 1), 0]
      ∧ k0_off4 (tileAt n) k 1#32 = ![1024 * (2 * k.val + 1), 0] ∧ k0_off5 (tileAt n) k 1#32 = ![1024 * (2 * k.val + 1), 128]
      ∧ k0_off4 (tileAt n) k 2#32 = ![1024 * min (2 * k.val + 2) ((n.val - 1) / 2 - 1), 0]
      ∧ k0_off5 (tileAt n) k 2#32 = ![1024 * min (2 * k.val + 2) ((n.val - 1) / 2 - 1), 128] := by decide +kernel
  exact key (i 1)

theorem off_tail (i : grid0.Coords) :
    (k0_cond2 i = 1#1 → k0_off11 i = ![1024 * (((i 1).val - 1) / 2 - 1), 0])
      ∧ (k0_cond3 i = 1#1 → k0_off12 i = ![512 * ((i 1).val - 2), 0] ∧ k0_off13 i = ![512 * ((i 1).val - 2), 128] ∧ k0_off14 i = ![512 * ((i 1).val - 2), 0])
      ∧ (k0_cond5 i = 1#1 → k0_off18 i = ![512 * ((i 1).val - 1), 0] ∧ k0_off19 i = ![512 * ((i 1).val - 1), 128] ∧ k0_off20 i = ![512 * ((i 1).val - 1), 0]) := by
  have key : ∀ n : Fin 32,
    (k0_cond2 (tileAt n) = 1#1 → k0_off11 (tileAt n) = ![1024 * ((n.val - 1) / 2 - 1), 0])
      ∧ (k0_cond3 (tileAt n) = 1#1 → k0_off12 (tileAt n) = ![512 * (n.val - 2), 0] ∧ k0_off13 (tileAt n) = ![512 * (n.val - 2), 128] ∧ k0_off14 (tileAt n) = ![512 * (n.val - 2), 0])
      ∧ (k0_cond5 (tileAt n) = 1#1 → k0_off18 (tileAt n) = ![512 * (n.val - 1), 0] ∧ k0_off19 (tileAt n) = ![512 * (n.val - 1), 128] ∧ k0_off20 (tileAt n) = ![512 * (n.val - 1), 0]) := by decide +kernel
  exact key (i 1)

end Cert.Attn
-- ==== Proof.Rows.lean ====
/-
  One row of one map through all spans of a query tile: behind the last span the row's sums are those over all keys up to
  the tile's end.
-/
module

public import proofs.«01_k».proof.Proof.Sums
public import proofs.«01_k».proof.Proof.Spans

@[expose] public section

set_option maxRecDepth 16384

noncomputable section

namespace Cert.Attn

open Idealize.ShloMosaic Cert.KernelIdeal Cert.KernelIdeal.Gen
open Idealize.ShloMosaic (ix1 ix2 ix3 ix4)

/-- Row `r` of `st` holds the sums of weights `e` and of weighted values `w` over the first `n` keys. -/
def At (st : Slabs Ideal) (r : Fin 512) (n : ℕ) (e : ℕ → ℝ) (w : ℕ → Fin 256 → ℝ) : Prop :=
  RowAt st r (∑ j ∈ Finset.range n, e j) fun d => ∑ j ∈ Finset.range n, e j * w j d

theorem sum_block (n k : ℕ) (f : ℕ → ℝ) : ∑ j ∈ Finset.range n, f j + ∑ c : Fin k, f (n + c.val) = ∑ j ∈ Finset.range (n + k), f j := by
  rw [Finset.sum_range_add, Fin.sum_univ_eq_sum_range (fun c => f (n + c)) k]

theorem At.absorb512 {st : Slabs Ideal} {r : Fin 512} {n : ℕ} {e : ℕ → ℝ} {w : ℕ → Fin 256 → ℝ} (h : At st r n e w) (s : FVec Ideal S512x512 .bf16)
    (R : FVec Ideal S512x128 .f32) (v : Vec Ideal S512x256 .bf16) (hR : ∃ ρ : ℝ, ∀ l, R (ix2 r l) = (ρ : EReal))
    (hs : ∀ c : Fin 512, Weighs (s (ix2 r c)) (e (n + c.val))) (hv : ∀ (c : Fin 512) d, v (ix2 c d) = (w (n + c.val) d : EReal)) :
    At (absorb512 st s R v) r (n + 512) e w := by
  obtain ⟨ρ, hR⟩ := hR
  have := absorb512_row h s R v ρ hR _ hs _ hv
  unfold At
  simp only [← sum_block n 512 e, ← sum_block n 512 fun j => e j * w j _]
  exact this

theorem At.absorb1024 {st : Slabs Ideal} {r : Fin 512} {n : ℕ} {e : ℕ → ℝ} {w : ℕ → Fin 256 → ℝ} (h : At st r n e w) (s : FVec Ideal S512x1024 .bf16)
    (R : FVec Ideal S512x128 .f32) (v : Vec Ideal S1024x256 .bf16) (hR : ∃ ρ : ℝ, ∀ l, R (ix2 r l) = (ρ : EReal))
    (hs : ∀ c : Fin 1024, Weighs (s (ix2 r c)) (e (n + c.val))) (hv : ∀ (c : Fin 1024) d, v (ix2 c d) = (w (n + c.val) d : EReal)) :
    At (absorb1024 st s R v) r (n + 1024) e w := by
  obtain ⟨ρ, hR⟩ := hR
  have := absorb1024_row h s R v ρ hR _ hs _ hv
  unfold At
  simp only [← sum_block n 1024 e, ← sum_block n 1024 fun j => e j * w j _]
  exact this

theorem At.take512 {st : Slabs Ideal} {r : Fin 512} {n : ℕ} {e : ℕ → ℝ} {w : ℕ → Fin 256 → ℝ} (h : At st r n e w) (s : FVec Ideal S512x512 .bf16)
    (v : Vec Ideal S512x256 .bf16) (c₀ : Fin 512) (h₀ : e (n + c₀.val) ≠ 0)
    (hs : ∀ c : Fin 512, Weighs (s (ix2 r c)) (e (n + c.val))) (hv : ∀ (c : Fin 512) d, v (ix2 c d) = (w (n + c.val) d : EReal)) :
    At (take512 st s v) r (n + 512) e w := by
  obtain ⟨ρ, hρ⟩ := max_real _ _ hs c₀ h₀
  exact h.absorb512 s _ v ⟨ρ, fun l => by rw [spread_at, top512_at, hρ]⟩ hs hv

theorem At.take1024 {st : Slabs Ideal} {r : Fin 512} {n : ℕ} {e : ℕ → ℝ} {w : ℕ → Fin 256 → ℝ} (h : At st r n e w) (s : FVec Ideal S512x1024 .bf16)
    (v : Vec Ideal S1024x256 .bf16) (c₀ : Fin 1024) (h₀ : e (n + c₀.val) ≠ 0)
    (hs : ∀ c : Fin 1024, Weighs (s (ix2 r c)) (e (n + c.val))) (hv : ∀ (c : Fin 1024) d, v (ix2 c d) = (w (n + c.val) d : EReal)) :
    At (take1024 st s v) r (n + 1024) e w := by
  obtain ⟨ρ, hρ⟩ := max_real _ _ hs c₀ h₀
  exact h.absorb1024 s _ v ⟨ρ, fun l => by rw [spread_at, top1024_at, hρ]⟩ hs hv

/-- A stored span: the scores of the 1024 keys from `n` on, weighing `e`, and their row maximum. -/
def SlotAt (s : Vec Ideal S1x1x512x1024 .bf16) (t : Vec Ideal S1x1x512x128 .f32) (r : Fin 512) (n : ℕ) (e : ℕ → ℝ) : Prop :=
  (∀ c : Fin 1024, Weighs (shapeCast S512x1024 s shapeCasts_S1x1x512x1024_S512x1024 (ix2 r c)) (e (n + c.val)))
    ∧ ∃ ρ : ℝ, ∀ l, shapeCast S512x128 t shapeCasts_S1x1x512x128_S512x128 (ix2 r l) = (ρ : EReal)

theorem slot_stored (s : FVec Ideal S512x1024 .bf16) (r : Fin 512) (n : ℕ) (e : ℕ → ℝ) (hs : ∀ c : Fin 1024, Weighs (s (ix2 r c)) (e (n + c.val)))
    (h₀ : e n ≠ 0) : SlotAt (storedScores s) (storedTop s) r n e := by
  obtain ⟨ρ, hρ⟩ := max_real _ _ hs 0 (by simpa using h₀)
  exact ⟨fun c => by rw [unstored_scores]; exact hs c, ρ, fun l => by rw [unstored_top_at, top1024_at, hρ]⟩

theorem At.stored {st : Slabs Ideal} {r : Fin 512} {n : ℕ} {e : ℕ → ℝ} {w : ℕ → Fin 256 → ℝ} (h : At st r n e w)
    {s : Vec Ideal S1x1x512x1024 .bf16} {t : Vec Ideal S1x1x512x128 .f32} (hs : SlotAt s t r n e) (v : Vec Ideal S1024x256 .bf16)
    (hv : ∀ (c : Fin 1024) d, v (ix2 c d) = (w (n + c.val) d : EReal)) : At (absorbStored st s t v) r (n + 1024) e w :=
  h.absorb1024 _ _ v hs.2 hs.1 hv

/-- The part of the state that belongs to one map. -/
def Held.sums (g : Held Ideal) (μ : Fin 2) : Slabs Ideal := match μ with | 0 => g.a | 1 => g.b
def Held.score (g : Held Ideal) (μ : Fin 2) : Vec Ideal S1x1x512x1024 .bf16 := match μ with | 0 => g.sa | 1 => g.sb
def Held.peak (g : Held Ideal) (μ : Fin 2) : Vec Ideal S1x1x512x128 .f32 := match μ with | 0 => g.ra | 1 => g.rb

theorem Held.sums_0 (g : Held Ideal) : g.sums 0 = g.a := rfl
theorem Held.sums_1 (g : Held Ideal) : g.sums 1 = g.b := rfl
theorem Held.score_0 (g : Held Ideal) : g.score 0 = g.sa := rfl
theorem Held.score_1 (g : Held Ideal) : g.score 1 = g.sb := rfl
theorem Held.peak_0 (g : Held Ideal) : g.peak 0 = g.ra := rfl
theorem Held.peak_1 (g : Held Ideal) : g.peak 1 = g.rb := rfl

theorem start_at (r : Fin 512) (e : ℕ → ℝ) (w : ℕ → Fin 256 → ℝ) : At start r 0 e w := by
  have h0 : Ideal.ofBits .f32 0x00000000#32 = 0 := by simp [Ideal.ofBits, Ideal.ieee]
  have hM : ∃ M : ℝ, Ideal.ofBits .f32 0xF149F2CA#32 = (M : EReal) := by
    simp only [Ideal.ofBits, Ideal.ieee]; exact ⟨_, rfl⟩
  obtain ⟨M, hM⟩ := hM
  exact ⟨M, fun l => hM, fun l => by simp only [Finset.range_zero, Finset.sum_empty, zero_mul]; exact h0,
    fun d => by simp only [Finset.range_zero, Finset.sum_empty, zero_mul]; exact h0⟩

theorem keys1024_at (X : S16384x256.Idx → Elt Ideal .bf16) (off : Fin 2 → ℕ) (h) (a b : ℕ) (ho : off = ![a, b]) (c : Fin 1024) (x : Fin 128)
    (I : Fin 16384) (J : Fin 256) (hI : I.val = a + c.val) (hJ : J.val = b + x.val) : keys1024 X off h (ix2 c x) = X (ix2 I J) := by
  subst ho
  refine congrArg X (funext fun d => Fin.ext ?_)
  match d with
  | 0 => simp [hI, Rect.unit]
  | 1 => simp [hJ, Rect.unit]

theorem keys512_at (X : S16384x256.Idx → Elt Ideal .bf16) (off : Fin 2 → ℕ) (h) (a b : ℕ) (ho : off = ![a, b]) (c : Fin 512) (x : Fin 128)
    (I : Fin 16384) (J : Fin 256) (hI : I.val = a + c.val) (hJ : J.val = b + x.val) : keys512 X off h (ix2 c x) = X (ix2 I J) := by
  subst ho
  refine congrArg X (funext fun d => Fin.ext ?_)
  match d with
  | 0 => simp [hI, Rect.unit]
  | 1 => simp [hJ, Rect.unit]

theorem vals1024_at (X : S16384x256.Idx → Elt Ideal .bf16) (off : Fin 2 → ℕ) (h) (a : ℕ) (ho : off = ![a, 0]) (c : Fin 1024) (x : Fin 256)
    (I : Fin 16384) (hI : I.val = a + c.val) : vals1024 X off h (ix2 c x) = X (ix2 I x) := by
  subst ho
  refine congrArg X (funext fun d => Fin.ext ?_)
  match d with
  | 0 => simp [hI, Rect.unit]
  | 1 => simp [Rect.unit]

theorem vals512_at (X : S16384x256.Idx → Elt Ideal .bf16) (off : Fin 2 → ℕ) (h) (a : ℕ) (ho : off = ![a, 0]) (c : Fin 512) (x : Fin 256)
    (I : Fin 16384) (hI : I.val = a + c.val) : vals512 X off h (ix2 c x) = X (ix2 I x) := by
  subst ho
  refine congrArg X (funext fun d => Fin.ext ?_)
  match d with
  | 0 => simp [hI, Rect.unit]
  | 1 => simp [Rect.unit]

/-- The queries of map `μ`. -/
def queriesOf (X : S512x256.Idx → Elt Ideal .bf16) (μ : Fin 2) : Vec Ideal S512x128 .bf16 := match μ with | 0 => queriesA X | 1 => queriesB X

theorem queriesOf_at (X : S512x256.Idx → Elt Ideal .bf16) (μ : Fin 2) (r : Fin 512) (y : Fin 128) :
    queriesOf X μ (ix2 r y) = X (ix2 r ⟨128 * μ.val + y.val, by omega⟩) := by
  match μ with
  | 0 =>
    refine congrArg X (funext fun d => Fin.ext ?_)
    match d with
    | 0 => simp [Rect.unit]
    | 1 => simp [Rect.unit]
  | 1 =>
    refine congrArg X (funext fun d => Fin.ext ?_)
    match d with
    | 0 => simp [Rect.unit]
    | 1 => simp [Rect.unit]

theorem bias512_at (X : S1x2x512x1024.Idx → Elt Ideal .f32) (μ : Fin 2) (r c : Fin 512) :
    (match μ with | 0 => biasA512 X | 1 => biasB512 X) (ix4 0 0 r c) = X (ix4 0 μ r ⟨512 + c.val, by omega⟩) := by
  match μ with
  | 0 =>
    refine congrArg X (funext fun d => Fin.ext ?_)
    match d with
    | 0 | 1 | 2 | 3 => simp [Rect.unit]
  | 1 =>
    refine congrArg X (funext fun d => Fin.ext ?_)
    match d with
    | 0 | 1 | 2 | 3 => simp [Rect.unit]

theorem bias1024_at (X : S1x2x512x1024.Idx → Elt Ideal .f32) (μ : Fin 2) (r : Fin 512) (c : Fin 1024) :
    (match μ with | 0 => biasA1024 X | 1 => biasB1024 X) (ix4 0 0 r c) = X (ix4 0 μ r c) := by
  match μ with
  | 0 =>
    refine congrArg X (funext fun d => Fin.ext ?_)
    match d with
    | 0 | 1 | 2 | 3 => simp [Rect.unit]
  | 1 =>
    refine congrArg X (funext fun d => Fin.ext ?_)
    match d with
    | 0 | 1 | 2 | 3 => simp [Rect.unit]

/-- What the windows of query tile `n` give for row `r` of map `μ`: the products `x` with the keys, the weights `e` the scores
    have (a power of two of the product for far keys, with the bias for near ones), and the values `w`. -/
structure RowIn (n : ℕ) (X2 : S512x256.Idx → Elt Ideal .bf16) (X3 X4 : S16384x256.Idx → Elt Ideal .bf16) (X5 : S1x2x512x1024.Idx → Elt Ideal .f32)
    (μ : Fin 2) (r : Fin 512) (x e : ℕ → ℝ) (w : ℕ → Fin 256 → ℝ) : Prop where
  dots : ∀ j : Fin 16384, ∑ y : Fin 128, X2 (ix2 r ⟨128 * μ.val + y.val, by omega⟩) * X3 (ix2 j ⟨128 * μ.val + y.val, by omega⟩) = ((x j.val : ℝ) : EReal)
  vals : ∀ (j : Fin 16384) d, X4 (ix2 j d) = ((w j.val d : ℝ) : EReal)
  far : ∀ j, j < 512 * (n - 1) → e j = (2 : ℝ) ^ x j
  near : ∀ c : Fin 1024, 512 ≤ 512 * n + c.val → Weighs (((x (512 * n + c.val - 512) : ℝ) : EReal) + X5 (ix4 0 μ r c)) (e (512 * n + c.val - 512))
  diag : e (512 * n + r.val) ≠ 0

variable {i : grid0.Coords} {X2 : S512x256.Idx → Elt Ideal .bf16} {X3 X4 : S16384x256.Idx → Elt Ideal .bf16} {X5 : S1x2x512x1024.Idx → Elt Ideal .f32}
  {μ : Fin 2} {r : Fin 512} {x e : ℕ → ℝ} {w : ℕ → Fin 256 → ℝ} {n : ℕ}

theorem RowIn.dots1024 (H : RowIn n X2 X3 X4 X5 μ r x e w) {off : Fin 2 → ℕ} (h) (a : ℕ) (ho : off = ![a, 128 * μ.val]) (ha : a + 1024 ≤ 16384) (c : Fin 1024) :
    ∑ y : Fin 128, queriesOf X2 μ (ix2 r y) * keys1024 X3 off h (ix2 c y) = ((x (a + c.val) : ℝ) : EReal) := by
  rw [← H.dots ⟨a + c.val, by omega⟩]
  refine Finset.sum_congr rfl fun y _ => ?_
  rw [queriesOf_at, keys1024_at X3 off h a (128 * μ.val) ho c y ⟨a + c.val, by omega⟩ ⟨128 * μ.val + y.val, by omega⟩ rfl rfl]

theorem RowIn.dots512 (H : RowIn n X2 X3 X4 X5 μ r x e w) {off : Fin 2 → ℕ} (h) (a : ℕ) (ho : off = ![a, 128 * μ.val]) (ha : a + 512 ≤ 16384) (c : Fin 512) :
    ∑ y : Fin 128, queriesOf X2 μ (ix2 r y) * keys512 X3 off h (ix2 c y) = ((x (a + c.val) : ℝ) : EReal) := by
  rw [← H.dots ⟨a + c.val, by omega⟩]
  refine Finset.sum_congr rfl fun y _ => ?_
  rw [queriesOf_at, keys512_at X3 off h a (128 * μ.val) ho c y ⟨a + c.val, by omega⟩ ⟨128 * μ.val + y.val, by omega⟩ rfl rfl]

theorem RowIn.far_weighs (H : RowIn n X2 X3 X4 X5 μ r x e w) {j : ℕ} (hj : j < 512 * (n - 1)) : Weighs ((x j : ℝ) : EReal) (e j) :=
  .inr ⟨x j, rfl, H.far j hj⟩

theorem RowIn.scores1024 (H : RowIn n X2 X3 X4 X5 μ r x e w) {off : Fin 2 → ℕ} (h) (a : ℕ) (ho : off = ![a, 128 * μ.val]) (ha : a + 1024 ≤ 512 * (n - 1))
    (hn : n < 32) (c : Fin 1024) : Weighs (scores1024 (queriesOf X2 μ) (keys1024 X3 off h) (ix2 r c)) (e (a + c.val)) := by
  rw [show Attn.scores1024 (queriesOf X2 μ) (keys1024 X3 off h) (ix2 r c) = Attn.dots1024 (queriesOf X2 μ) (keys1024 X3 off h) (ix2 r c) from rfl, dots1024_at, H.dots1024 h a ho (by omega)]
  exact H.far_weighs (by omega)

theorem RowIn.scores512 (H : RowIn n X2 X3 X4 X5 μ r x e w) {off : Fin 2 → ℕ} (h) (a : ℕ) (ho : off = ![a, 128 * μ.val]) (ha : a + 512 ≤ 512 * (n - 1))
    (hn : n < 32) (c : Fin 512) : Weighs (scores512 (queriesOf X2 μ) (keys512 X3 off h) (ix2 r c)) (e (a + c.val)) := by
  rw [show Attn.scores512 (queriesOf X2 μ) (keys512 X3 off h) (ix2 r c) = Attn.dots512 (queriesOf X2 μ) (keys512 X3 off h) (ix2 r c) from rfl, dots512_at, H.dots512 h a ho (by omega)]
  exact H.far_weighs (by omega)

theorem RowIn.far_ne (H : RowIn n X2 X3 X4 X5 μ r x e w) {j : ℕ} (hj : j < 512 * (n - 1)) : e j ≠ 0 := by
  rw [H.far j hj]; exact (Real.rpow_pos_of_pos two_pos _).ne'

theorem RowIn.vals1024 (H : RowIn n X2 X3 X4 X5 μ r x e w) {off : Fin 2 → ℕ} (h) (a : ℕ) (ho : off = ![a, 0]) (ha : a + 1024 ≤ 16384) (c : Fin 1024) (d : Fin 256) :
    vals1024 X4 off h (ix2 c d) = ((w (a + c.val) d : ℝ) : EReal) := by
  rw [vals1024_at X4 off h a ho c d ⟨a + c.val, by omega⟩ rfl, H.vals]

theorem RowIn.vals512 (H : RowIn n X2 X3 X4 X5 μ r x e w) {off : Fin 2 → ℕ} (h) (a : ℕ) (ho : off = ![a, 0]) (ha : a + 512 ≤ 16384) (c : Fin 512) (d : Fin 256) :
    vals512 X4 off h (ix2 c d) = ((w (a + c.val) d : ℝ) : EReal) := by
  rw [vals512_at X4 off h a ho c d ⟨a + c.val, by omega⟩ rfl, H.vals]

/-- The state before a trip of the loop: `n` spans are in, span `k` is stored. -/
def Before (g : Held Ideal) (μ : Fin 2) (r : Fin 512) (n k : ℕ) (e : ℕ → ℝ) (w : ℕ → Fin 256 → ℝ) : Prop :=
  At (g.sums μ) r (1024 * n) e w ∧ SlotAt (g.score μ) (g.peak μ) r (1024 * k) e

theorem primed_at (H : RowIn (i 1).val X2 X3 X4 X5 μ r x e w) (h : k0_cond1 i = 1#1) : Before (primed i h X2 X3 blank) μ r 0 0 e w := by
  have hn : 2 ≤ (i 1).val - 1 := (plan i).1.1 h
  have hn' : (i 1).val < 32 := (i 1).isLt
  obtain ⟨h1, h2⟩ := off_first i h
  match μ, H with
  | 0, H =>
    simp only [Before, primed, blank, Held.sums_0, Held.sums_1, Held.score_0, Held.score_1, Held.peak_0, Held.peak_1, mul_zero]
    exact ⟨start_at _ _ _, slot_stored _ _ _ _ (H.scores1024 _ 0 h1 (by omega) hn') (H.far_ne (by omega))⟩
  | 1, H =>
    simp only [Before, primed, blank, Held.sums_0, Held.sums_1, Held.score_0, Held.score_1, Held.peak_0, Held.peak_1, mul_zero]
    exact ⟨start_at _ _ _, slot_stored _ _ _ _ (H.scores1024 _ 0 h2 (by omega) hn') (H.far_ne (by omega))⟩

theorem trip_at (H : RowIn (i 1).val X2 X3 X4 X5 μ r x e w) (k : Fin (k0_t1_loop i).trips) (g : Held Ideal) (hg : Before g μ r (2 * k.val) (2 * k.val) e w) :
    Before (tripStep i X2 X3 X4 k g) μ r (2 * (k.val + 1)) (min (2 * (k.val + 1)) (((i 1).val - 1) / 2 - 1)) e w := by
  have ht : k.val < ((i 1).val - 1) / 4 := lt_of_lt_of_eq k.isLt (plan i).2.1
  have hn' : (i 1).val < 32 := (i 1).isLt
  obtain ⟨h3, h6, h4, h5, h4', h5'⟩ := off_trip i k
  have e1 : 1024 * (2 * (k.val + 1)) = 1024 * (2 * k.val) + 1024 + 1024 := by ring
  have e2 : 1024 * (2 * k.val + 1) = 1024 * (2 * k.val) + 1024 := by ring
  rw [e2] at h4 h5 h6
  match μ, H, hg with
  | 0, H, hg =>
    simp only [Before, Held.sums_0, Held.sums_1, Held.score_0, Held.score_1, Held.peak_0, Held.peak_1] at hg
    simp only [Before, tripStep, pairStep, Held.sums_0, Held.sums_1, Held.score_0, Held.score_1, Held.peak_0, Held.peak_1]
    rw [e1]
    exact ⟨(hg.1.stored hg.2 _ (H.vals1024 _ _ h3 (by omega))).stored
      (slot_stored _ _ _ _ (H.scores1024 _ _ h4 (by omega) hn') (H.far_ne (by omega))) _ (H.vals1024 _ _ h6 (by omega)),
      slot_stored _ _ _ _ (H.scores1024 _ _ h4' (by omega) hn') (H.far_ne (by omega))⟩
  | 1, H, hg =>
    simp only [Before, Held.sums_0, Held.sums_1, Held.score_0, Held.score_1, Held.peak_0, Held.peak_1] at hg
    simp only [Before, tripStep, pairStep, Held.sums_0, Held.sums_1, Held.score_0, Held.score_1, Held.peak_0, Held.peak_1]
    rw [e1]
    exact ⟨(hg.1.stored hg.2 _ (H.vals1024 _ _ h3 (by omega))).stored
      (slot_stored _ _ _ _ (H.scores1024 _ _ h5 (by omega) hn') (H.far_ne (by omega))) _ (H.vals1024 _ _ h6 (by omega)),
      slot_stored _ _ _ _ (H.scores1024 _ _ h5' (by omega) hn') (H.far_ne (by omega))⟩

theorem loop_at (H : RowIn (i 1).val X2 X3 X4 X5 μ r x e w) (h : k0_cond1 i = 1#1) : ∀ k, k ≤ (k0_t1_loop i).trips →
    Before (farLoop i X2 X3 X4 (primed i h X2 X3 blank) k) μ r (2 * k) (min (2 * k) (((i 1).val - 1) / 2 - 1)) e w
  | 0, _ => by simpa [farLoop] using primed_at H h
  | k + 1, hk => by
    have ht : k < ((i 1).val - 1) / 4 := lt_of_lt_of_eq (show k < (k0_t1_loop i).trips from hk) (plan i).2.1
    have ih := loop_at H h k (Nat.le_of_succ_le hk)
    rw [min_eq_left (by omega)] at ih
    have := trip_at H ⟨k, hk⟩ _ ih
    rw [farLoop, dif_pos (show k < (k0_t1_loop i).trips from hk)]
    exact this

/-- Behind the loop: the spans in pairs are in, and the odd one, if there is one, is stored. -/
theorem farState_at (H : RowIn (i 1).val X2 X3 X4 X5 μ r x e w) :
    At ((farState i X2 X3 X4).sums μ) r (2048 * (((i 1).val - 1) / 4)) e w
      ∧ (((i 1).val - 1) / 2 % 2 = 1 → SlotAt ((farState i X2 X3 X4).score μ) ((farState i X2 X3 X4).peak μ) r (2048 * (((i 1).val - 1) / 4)) e) := by
  unfold farState
  split
  · rename_i h
    have := loop_at H h _ le_rfl
    have ht := (plan i).2.1
    refine ⟨?_, fun hodd => ?_⟩
    · rw [← ht, show 2048 * (k0_t1_loop i).trips = 1024 * (2 * (k0_t1_loop i).trips) by ring]; exact this.1
    · have h2 := this.2
      rw [show 1024 * min (2 * (k0_t1_loop i).trips) (((i 1).val - 1) / 2 - 1) = 2048 * (((i 1).val - 1) / 4) by rw [ht]; omega] at h2
      exact h2
  · rename_i h
    have hn : ¬ 2 ≤ (i 1).val - 1 := fun hh => h ((plan i).1.2 hh)
    refine ⟨?_, fun hodd => absurd hodd (by omega)⟩
    rw [show 2048 * (((i 1).val - 1) / 4) = 0 by omega]
    match μ with
    | 0 => exact start_at _ _ _
    | 1 => exact start_at _ _ _

theorem oddSpan_at (H : RowIn (i 1).val X2 X3 X4 X5 μ r x e w) (h : k0_cond2 i = 1#1) (g : Held Ideal) (m : ℕ) (hm : m = 1024 * (((i 1).val - 1) / 2 - 1))
    (hg : At (g.sums μ) r m e w) (hs : SlotAt (g.score μ) (g.peak μ) r m e) : At ((oddSpan i h X4 g).sums μ) r (m + 1024) e w := by
  have hn' : (i 1).val < 32 := (i 1).isLt
  have ho := (off_tail i).1 h
  rw [← hm] at ho
  match μ, H, hg, hs with
  | 0, H, hg, hs =>
    simp only [Held.sums_0, Held.sums_1, Held.score_0, Held.score_1, Held.peak_0, Held.peak_1] at hg hs
    simp only [oddSpan, Held.sums_0, Held.sums_1, Held.score_0, Held.score_1, Held.peak_0, Held.peak_1]
    exact hg.stored hs _ (H.vals1024 _ _ ho (by omega))
  | 1, H, hg, hs =>
    simp only [Held.sums_0, Held.sums_1, Held.score_0, Held.score_1, Held.peak_0, Held.peak_1] at hg hs
    simp only [oddSpan, Held.sums_0, Held.sums_1, Held.score_0, Held.score_1, Held.peak_0, Held.peak_1]
    exact hg.stored hs _ (H.vals1024 _ _ ho (by omega))

theorem oddTile_at (H : RowIn (i 1).val X2 X3 X4 X5 μ r x e w) (h : k0_cond3 i = 1#1) (g : Held Ideal)
    (hg : At (g.sums μ) r (512 * ((i 1).val - 2)) e w) : At ((oddTile i h X2 X3 X4 g).sums μ) r (512 * ((i 1).val - 2) + 512) e w := by
  have hn' : (i 1).val < 32 := (i 1).isLt
  have hodd := (plan i).2.2.2.1.1 h
  obtain ⟨h1, h2, h3⟩ := (off_tail i).2.1 h
  match μ, H, hg with
  | 0, H, hg =>
    simp only [Held.sums_0, Held.sums_1, Held.score_0, Held.score_1, Held.peak_0, Held.peak_1] at hg
    simp only [oddTile, Held.sums_0, Held.sums_1, Held.score_0, Held.score_1, Held.peak_0, Held.peak_1]
    exact hg.take512 _ _ 0 (H.far_ne (by simp; omega)) (H.scores512 _ _ h1 (by omega) hn') (H.vals512 _ _ h3 (by omega))
  | 1, H, hg =>
    simp only [Held.sums_0, Held.sums_1, Held.score_0, Held.score_1, Held.peak_0, Held.peak_1] at hg
    simp only [oddTile, Held.sums_0, Held.sums_1, Held.score_0, Held.score_1, Held.peak_0, Held.peak_1]
    exact hg.take512 _ _ 0 (H.far_ne (by simp; omega)) (H.scores512 _ _ h2 (by omega) hn') (H.vals512 _ _ h3 (by omega))

theorem diagTile_at (H : RowIn (i 1).val X2 X3 X4 X5 μ r x e w) (h : k0_cond4 i = 1#1) (g : Held Ideal)
    (hg : At (g.sums μ) r 0 e w) : At ((diagTile i h X2 X3 X4 X5 g).sums μ) r (0 + 512) e w := by
  have h0 := (plan i).2.2.2.2.1.1 h
  have hd := H.diag
  have hw : ∀ (off : Fin 2 → ℕ) (hb) (ho : off = ![0, 128 * μ.val]) (b) (hbias : ∀ c, b (ix4 0 0 r c) = X5 (ix4 0 μ r ⟨512 + c.val, by omega⟩)) (c : Fin 512),
      Weighs (biased512 (queriesOf X2 μ) (keys512 X3 off hb) b (ix2 r c)) (e (0 + c.val)) := by
    intro off hb ho b hbias c
    rw [biased512_at, H.dots512 hb 0 ho (by omega), hbias]
    have := H.near ⟨512 + c.val, by omega⟩ (show 512 ≤ 512 * (i 1).val + (512 + c.val) by omega)
    rw [show 512 * (i 1).val + (512 + c.val) - 512 = 0 + c.val by omega] at this
    exact this
  have o1 : k0_off15 i = ![0, 0] := by rw [k0_off15_eq, h0]
  have o2 : k0_off16 i = ![0, 128] := by rw [k0_off16_eq, h0]
  have o3 : k0_off17 i = ![0, 0] := by rw [k0_off17_eq, h0]
  rw [h0] at hd
  match μ, H, hg, hw with
  | 0, H, hg, hw =>
    simp only [Held.sums_0, Held.sums_1, Held.score_0, Held.score_1, Held.peak_0, Held.peak_1] at hg
    simp only [diagTile, Held.sums_0, Held.sums_1, Held.score_0, Held.score_1, Held.peak_0, Held.peak_1]
    exact hg.take512 _ _ r (by simpa using hd) (hw _ _ o1 _ (bias512_at X5 0 r)) (H.vals512 _ _ o3 (by omega))
  | 1, H, hg, hw =>
    simp only [Held.sums_0, Held.sums_1, Held.score_0, Held.score_1, Held.peak_0, Held.peak_1] at hg
    simp only [diagTile, Held.sums_0, Held.sums_1, Held.score_0, Held.score_1, Held.peak_0, Held.peak_1]
    exact hg.take512 _ _ r (by simpa using hd) (hw _ _ o2 _ (bias512_at X5 1 r)) (H.vals512 _ _ o3 (by omega))

theorem nearSpan_at (H : RowIn (i 1).val X2 X3 X4 X5 μ r x e w) (h : k0_cond5 i = 1#1) (g : Held Ideal)
    (hg : At (g.sums μ) r (512 * ((i 1).val - 1)) e w) : At ((nearSpan i h X2 X3 X4 X5 g).sums μ) r (512 * ((i 1).val - 1) + 1024) e w := by
  have h0 := (plan i).2.2.2.2.2.1 h
  have hn' : (i 1).val < 32 := (i 1).isLt
  have hd := H.diag
  have hw : ∀ (off : Fin 2 → ℕ) (hb) (ho : off = ![512 * ((i 1).val - 1), 128 * μ.val]) (b) (hbias : ∀ c, b (ix4 0 0 r c) = X5 (ix4 0 μ r c)) (c : Fin 1024),
      Weighs (biased1024 (queriesOf X2 μ) (keys1024 X3 off hb) b (ix2 r c)) (e (512 * ((i 1).val - 1) + c.val)) := by
    intro off hb ho b hbias c
    rw [biased1024_at, H.dots1024 hb _ ho (by omega), hbias]
    have := H.near c (by omega)
    rw [show 512 * (i 1).val + c.val - 512 = 512 * ((i 1).val - 1) + c.val by omega] at this
    exact this
  obtain ⟨o1, o2, o3⟩ := (off_tail i).2.2 h
  rw [show 512 * (i 1).val + r.val = 512 * ((i 1).val - 1) + (512 + r.val) by omega] at hd
  match μ, H, hg, hw with
  | 0, H, hg, hw =>
    simp only [Held.sums_0, Held.sums_1, Held.score_0, Held.score_1, Held.peak_0, Held.peak_1] at hg
    simp only [nearSpan, Held.sums_0, Held.sums_1, Held.score_0, Held.score_1, Held.peak_0, Held.peak_1]
    exact hg.take1024 _ _ ⟨512 + r.val, by omega⟩ hd (hw _ _ o1 _ (bias1024_at X5 0 r)) (H.vals1024 _ _ o3 (by omega))
  | 1, H, hg, hw =>
    simp only [Held.sums_0, Held.sums_1, Held.score_0, Held.score_1, Held.peak_0, Held.peak_1] at hg
    simp only [nearSpan, Held.sums_0, Held.sums_1, Held.score_0, Held.score_1, Held.peak_0, Held.peak_1]
    exact hg.take1024 _ _ ⟨512 + r.val, by omega⟩ hd (hw _ _ o2 _ (bias1024_at X5 1 r)) (H.vals1024 _ _ o3 (by omega))

/-- Behind the last span: the sums over all keys up to the tile's end. -/
theorem tail_at (H : RowIn (i 1).val X2 X3 X4 X5 μ r x e w) :
    At ((tail i X2 X3 X4 X5 (farState i X2 X3 X4)).sums μ) r (512 * ((i 1).val + 1)) e w := by
  obtain ⟨hf, hs⟩ := farState_at H
  obtain ⟨-, -, c2, c3, c4, c5⟩ := plan i
  generalize farState i X2 X3 X4 = g at hf hs ⊢
  have s1 : At (Held.sums (if h : k0_cond2 i = 1#1 then oddSpan i h X4 g else g) μ) r (1024 * (((i 1).val - 1) / 2)) e w := by
    split
    · rename_i h
      have ho := c2.1 h
      rw [show 1024 * (((i 1).val - 1) / 2) = 2048 * (((i 1).val - 1) / 4) + 1024 by omega]
      exact oddSpan_at H h g _ (by omega) hf (hs ho)
    · rename_i h
      rw [show 1024 * (((i 1).val - 1) / 2) = 2048 * (((i 1).val - 1) / 4) by have := mt c2.2 h; omega]
      exact hf
  unfold tail
  dsimp only
  generalize (if h : k0_cond2 i = 1#1 then oddSpan i h X4 g else g) = g1 at s1 ⊢
  have s2 : At (Held.sums (if h : k0_cond3 i = 1#1 then oddTile i h X2 X3 X4 g1 else g1) μ) r (512 * ((i 1).val - 1)) e w := by
    split
    · rename_i h
      have ho := c3.1 h
      rw [show 1024 * (((i 1).val - 1) / 2) = 512 * ((i 1).val - 2) by omega] at s1
      rw [show 512 * ((i 1).val - 1) = 512 * ((i 1).val - 2) + 512 by omega]
      exact oddTile_at H h g1 s1
    · rename_i h
      rw [show 512 * ((i 1).val - 1) = 1024 * (((i 1).val - 1) / 2) by have := mt c3.2 h; omega]
      exact s1
  generalize (if h : k0_cond3 i = 1#1 then oddTile i h X2 X3 X4 g1 else g1) = g2 at s2 ⊢
  by_cases h4 : k0_cond4 i = 1#1
  · have h0 := c4.1 h4
    simp only [dif_pos h4]
    rw [h0] at s2
    rw [show 512 * ((i 1).val + 1) = 0 + 512 by omega]
    exact diagTile_at H h4 g2 s2
  · have h0 : (i 1).val ≠ 0 := fun hh => h4 (c4.2 hh)
    have h5 : k0_cond5 i = 1#1 := c5.2 (by omega)
    simp only [dif_neg h4, dif_pos h5]
    rw [show 512 * ((i 1).val + 1) = 512 * ((i 1).val - 1) + 1024 by omega]
    exact nearSpan_at H h5 g2 s2

end Cert.Attn
-- ==== Proof.Out.lean ====
/-
  The output stage of one query tile read at an index: the two attentions of a head, their difference, its norm and its
  scaling.
-/
module

public import proofs.«01_k».proof.Proof.Rows

@[expose] public section

set_option maxRecDepth 16384

noncomputable section

namespace Cert.Attn

open Idealize.ShloMosaic Cert.KernelIdeal Cert.KernelIdeal.Gen
open Idealize.ShloMosaic (ix1 ix2 ix3 ix4)

/-- The weight of the second attention, from the four learned vectors. -/
def lamOf (a b c d : Fin 128 → EReal) : EReal :=
  Ideal.exp (∑ y, a y * b y) - Ideal.exp (∑ y, c y * d y) + Ideal.ofBits .f32 0x3EB60549#32

/-- One head's row of differences, normed, scaled by the gain and by the constant factor. -/
def normed (att : Fin 256 → EReal) (gain : EReal) (d : Fin 256) : EReal :=
  att d * Ideal.rsqrt (Ideal.div (∑ y, att y * att y) (Ideal.ofBits .f32 0x43800000#32) + Ideal.ofBits .f32 0x358637BD#32) * gain
    * Ideal.ofBits .f32 0x3F24FD5C#32

theorem lam_at (X : Vec Ideal S4x128 .f32) (p q : Fin 1) :
    k0_pay247 X (ix2 p q) = lamOf (fun y => X (ix2 0 y)) (fun y => X (ix2 1 y)) (fun y => X (ix2 2 y)) (fun y => X (ix2 3 y)) := by
  unfold lamOf
  pointwise [k0_pay247]

theorem sum_two (f : Fin 256 → EReal) :
    ∑ x : Fin 128, f ⟨x.val, by omega⟩ + ∑ x : Fin 128, f ⟨128 + x.val, by omega⟩ = ∑ y, f y :=
  (Fin.sum_univ_add (a := 128) (b := 128) f).symm

theorem out_at (lam : FVec Ideal S1x1 .f32) (a : Vec Ideal S1x512x256 .f32) (l : Vec Ideal S1x512x128 .f32) (a' : Vec Ideal S1x512x256 .f32)
    (l' : Vec Ideal S1x512x128 .f32) (g : Vec Ideal S1x256 .f32) (r : Fin 512) (d : Fin 256) (Λ Λ' : EReal) (h : ∀ y, l (ix3 0 r y) = Λ)
    (h' : ∀ y, l' (ix3 0 r y) = Λ') :
    k0_pay248 lam a l a' l' g (ix2 r d)
      = normed (fun y => a (ix3 0 r y) * Ideal.div 1 Λ - lam (ix2 0 0) * (a' (ix3 0 r y) * Ideal.div 1 Λ')) (g (ix2 0 d)) d := by
  unfold normed
  pointwise [k0_pay248]
  simp only [h, h']
  rw [← sum_two]
  split_ifs <;> rfl

/-- A sum over a shrunken total is the sum over the total. -/
theorem share (A L s : ℝ) (hL : L ≠ 0) (hs : s ≠ 0) : ((A * s : ℝ) : EReal) * Ideal.div 1 ((L * s : ℝ) : EReal) = ((A / L : ℝ) : EReal) := by
  have h : ((L * s : ℝ)) ≠ 0 := mul_ne_zero hL hs
  rw [Ideal.div_coe h, one_mul, ← EReal.coe_mul]
  congr 1
  field_simp

/-- One row of the output block from the finished sums of the head's two attentions. -/
theorem finished {sa sb : Slabs Ideal} {r : Fin 512} {L L' : ℝ} {A A' : Fin 256 → ℝ} (ha : RowAt sa r L A) (hb : RowAt sb r L' A') (hL : L ≠ 0)
    (hL' : L' ≠ 0) (lam : FVec Ideal S1x1 .f32) (ρ : ℝ) (hρ : lam (ix2 0 0) = (ρ : EReal)) (g : Vec Ideal S1x256 .f32) (d : Fin 256) :
    k0_pay248 lam sa.acc sa.l sb.acc sb.l g (ix2 r d)
      = normed (fun y => ((A y / L - ρ * (A' y / L') : ℝ) : EReal)) (g (ix2 0 d)) d := by
  obtain ⟨M, -, hl, hacc⟩ := ha
  obtain ⟨M', -, hl', hacc'⟩ := hb
  rw [out_at lam sa.acc sa.l sb.acc sb.l g r d _ _ hl hl']
  congr 1
  funext y
  rw [hacc, hacc', hρ, share _ _ _ hL (Real.rpow_pos_of_pos two_pos _).ne', share _ _ _ hL' (Real.rpow_pos_of_pos two_pos _).ne', ← EReal.coe_mul,
    ← EReal.coe_sub]

end Cert.Attn
-- ==== Proof.Refer.lean ====
/-
  The reference read at an index, over exact arithmetic.
-/
module

public import proofs.«01_k».proof.Proof.Out
public import proofs.«01_k».proof.Proof.Gen.ReferenceIdeal.Read
public import Idealize.ShloMosaic.Lib.Pointwise
public import Idealize.ShloMosaic.Lib.IdealHost

@[expose] public section

set_option maxRecDepth 16384

noncomputable section

namespace Cert.Attn

open Idealize.ShloMosaic Cert.ReferenceIdeal Cert.ReferenceIdeal.Gen Cert.ReferenceIdeal.Read
open Idealize.ShloMosaic (ix0 ix1 ix2 ix3 ix4)

abbrev Q := (⟨S16384x4096, .f32⟩ : BufTy).Contents (Elt Ideal)
abbrev KV := (⟨S16384x8192, .f32⟩ : BufTy).Contents (Elt Ideal)
abbrev Lam := (⟨S1x128, .f32⟩ : BufTy).Contents (Elt Ideal)
abbrev Table := (⟨S32x16x2, .f32⟩ : BufTy).Contents (Elt Ideal)

theorem ref_dots (x0 : Q) (x1 : KV) (h : Fin 16) (μ : Fin 2) (R j : Fin 16384) :
    val_main_v54 x0 x1 (ix4 h μ R j) = ∑ y : Fin 128, Ideal.div (x0 (ix2 R ⟨h * 256 + μ * 128 + y, by omega⟩)) (Ideal.sqrt (Ideal.ofBits .f32 0x43000000#32))
      * x1 (ix2 j ⟨h * 256 + μ * 128 + y, by omega⟩) := by
  pointwise [val_main_v54, val_main_v3, val_main_v0, val_main_v2, val_main_v1, val_main_cst, val_main_v5, val_main_v4]

theorem ref_rel (R j : Fin 16384) : val_main_v53 (F := Ideal) (ix2 R j) = IntOp.subi (BitVec.ofNat 32 R.val) (BitVec.ofNat 32 j.val) := by
  pointwise [val_main_v53, val_main_v52, val_main_v51, val_main_v50, val_main_v49, val_main_v48, val_main_v47]

theorem ref_dist (R j : Fin 16384) : val_main_v62 (F := Ideal) (ix3 R j 0) =
    Scalar.select (IntOp.cmpi .slt (IntOp.maxsi (val_main_v53 (F := Ideal) (ix2 R j)) 0#32) 0#32)
      (IntOp.addi (IntOp.maxsi (val_main_v53 (F := Ideal) (ix2 R j)) 0#32) 16384#32) (IntOp.maxsi (val_main_v53 (F := Ideal) (ix2 R j)) 0#32) := by
  pointwise [val_main_v62, val_main_v61, val_main_v60, val_main_v59, val_main_v58, val_main_v57, val_main_v56, val_main_v55, val_main_c_11, val_main_c_12, val_main_c_13]

theorem ref_table (x2 : Table) (h : Fin 16) (μ : Fin 2) (t : Fin 16384) : val_main_v46 x2 (ix3 h μ t) = val_main_v45 x2 (ix3 t h μ) := by
  pointwise [val_main_v46]

theorem ref_mask (x0 : Q) (x1 : KV) (x2 : Table) (h : Fin 16) (μ : Fin 2) (R j : Fin 16384) :
    val_main_v67 x0 x1 x2 (ix4 h μ R j) = Scalar.select (IntOp.cmpi .sge (val_main_v53 (F := Ideal) (ix2 R j)) 0#32)
      (val_main_v54 x0 x1 (ix4 h μ R j) + val_main_v63 x2 (ix4 h μ R j)) (Ideal.ofBits .f32 0xFF800000#32) := by
  pointwise [val_main_v67, val_main_v66, val_main_v65, val_main_c_14, val_main_v64, val_main_call1_v1, val_main_call1_v2, val_main_call1_v0, val_main_cst_15]
  exact congrArg (Scalar.select _ _) rfl

theorem ref_top (x0 : Q) (x1 : KV) (x2 : Table) (h : Fin 16) (μ : Fin 2) (R : Fin 16384) : val_main_v70 x0 x1 x2 (ix3 h μ R)
    = max (Ideal.ofBits .f32 0xFF800000#32) (Finset.univ.fold max (Ideal.ofBits .f32 0xFF800000#32) fun x => val_main_v67 x0 x1 x2 (ix4 h μ R x)) := by
  rw [val_main_v70_apply, val_main_v69_apply, val_main_cst_17_apply]
  unfold val_main_v68
  generalize val_main_v67 x0 x1 x2 = y
  refine congrArg (max _) ?_
  rw [Host.reduce_eq_fold_single (FloatOps.maximumf (F := Ideal) (φ := .f32)) y _ reducesTo_S16x2x16384x16384_S16x2x16384_d3 (by decide)]
  refine Finset.fold_congr fun k _ => congrArg y (funext fun a => Fin.ext ?_)
  match a with
  | ⟨0, _⟩ => rfl
  | ⟨1, _⟩ => rfl
  | ⟨2, _⟩ => rfl
  | ⟨3, _⟩ => rfl

theorem ref_exp (x0 : Q) (x1 : KV) (x2 : Table) (h : Fin 16) (μ : Fin 2) (R j : Fin 16384) :
    val_main_v74 x0 x1 x2 (ix4 h μ R j) = Ideal.exp (val_main_v67 x0 x1 x2 (ix4 h μ R j) - val_main_v70 x0 x1 x2 (ix3 h μ R)) := by
  pointwise [val_main_v74, val_main_v73, val_main_v72, val_main_v71]

theorem ref_total (x0 : Q) (x1 : KV) (x2 : Table) (h : Fin 16) (μ : Fin 2) (R : Fin 16384) :
    val_main_v75 x0 x1 x2 (ix3 h μ R) = ∑ k : Fin 16384, val_main_v74 x0 x1 x2 (ix4 h μ R k) := by
  rw [val_main_v75_apply, val_main_cst_18_apply]
  refine (congrArg (· + _) Ideal.ofBits_zero_f32).trans ((zero_add _).trans (Finset.sum_congr rfl fun k _ => ?_))
  refine congrArg _ (funext fun a => ?_)
  match a with
  | 0 => rfl
  | 1 => rfl
  | 2 => rfl
  | 3 => rfl

theorem ref_weight (x0 : Q) (x1 : KV) (x2 : Table) (h : Fin 16) (μ : Fin 2) (R j : Fin 16384) :
    val_main_v78 x0 x1 x2 (ix4 h μ R j) = Ideal.div (val_main_v74 x0 x1 x2 (ix4 h μ R j)) (val_main_v75 x0 x1 x2 (ix3 h μ R)) := by
  pointwise [val_main_v78, val_main_v77, val_main_v76]

theorem ref_diff (x0 : Q) (x1 : KV) (x2 : Table) (x3 x4 x5 x6 : Lam) (h : Fin 16) (R j : Fin 16384) : val_main_v85 x0 x1 x2 x3 x4 x5 x6 (ix3 h R j)
    = val_main_v78 x0 x1 x2 (ix4 h 0 R j) - val_main_v19 x3 x4 x5 x6 ix0 * val_main_v78 x0 x1 x2 (ix4 h 1 R j) := by
  rw [val_main_v85_apply, val_main_v84_apply, val_main_v83_apply, val_main_v82_apply, val_main_v81_apply, val_main_v80_apply, val_main_v79_apply]
  generalize val_main_v78 x0 x1 x2 = y
  generalize val_main_v19 x3 x4 x5 x6 = z
  have hh := h.isLt
  have hR := R.isLt
  have hj := j.isLt
  refine congrArg₂ (· - ·) (congrArg y (funext fun a => Fin.ext ?_)) (congrArg₂ (· * ·) (congrArg z (funext fun a => a.elim0)) (congrArg y (funext fun a => Fin.ext ?_)))
  · match a with
    | ⟨0, _⟩ => show ((h.val * 16384 + R.val) * 16384 + j.val) / 268435456 = h.val; omega
    | ⟨1, _⟩ => rfl
    | ⟨2, _⟩ => show ((h.val * 16384 + R.val) * 16384 + j.val) / 16384 % 16384 = R.val; omega
    | ⟨3, _⟩ => show ((h.val * 16384 + R.val) * 16384 + j.val) % 16384 = j.val; omega
  · match a with
    | ⟨0, _⟩ => show ((h.val * 16384 + R.val) * 16384 + j.val) / 268435456 = h.val; omega
    | ⟨1, _⟩ => rfl
    | ⟨2, _⟩ => show ((h.val * 16384 + R.val) * 16384 + j.val) / 16384 % 16384 = R.val; omega
    | ⟨3, _⟩ => show ((h.val * 16384 + R.val) * 16384 + j.val) % 16384 = j.val; omega

theorem ref_vals (x1 : KV) (h : Fin 16) (j : Fin 16384) (d : Fin 256) : val_main_v7 x1 (ix3 j h d) = x1 (ix2 j ⟨4096 + (h * 256 + d), by omega⟩) := by
  pointwise [val_main_v7, val_main_v6]

theorem ref_att (x0 : Q) (x1 : KV) (x2 : Table) (x3 x4 x5 x6 : Lam) (h : Fin 16) (R : Fin 16384) (d : Fin 256) :
    val_main_v87 x0 x1 x2 x3 x4 x5 x6 (ix3 R h d) = val_main_v86 x0 x1 x2 x3 x4 x5 x6 (ix3 h d R) := by
  pointwise [val_main_v87]

theorem ref_mix (x0 : Q) (x1 : KV) (x2 : Table) (x3 x4 x5 x6 : Lam) (h : Fin 16) (R : Fin 16384) (d : Fin 256) :
    val_main_v86 x0 x1 x2 x3 x4 x5 x6 (ix3 h d R) = ∑ k : Fin 16384, val_main_v7 x1 (ix3 k h d) * val_main_v85 x0 x1 x2 x3 x4 x5 x6 (ix3 h R k) := by
  rw [val_main_v86_apply]
  refine Finset.sum_congr rfl fun k _ => congrArg₂ (· * ·) (congrArg _ (funext fun a => ?_)) (congrArg _ (funext fun a => ?_))
  · match a with
    | 0 => rfl
    | 1 => rfl
    | 2 => rfl
  · match a with
    | 0 => rfl
    | 1 => rfl
    | 2 => rfl

theorem ref_end (x0 : Q) (x1 : KV) (x2 : Table) (x3 x4 x5 x6 : Lam) (x7 : (⟨S1x256, .f32⟩ : BufTy).Contents (Elt Ideal)) (h : Fin 16) (R : Fin 16384)
    (d : Fin 256) : val_main_v105 x0 x1 x2 x3 x4 x5 x6 x7 (ix2 R ⟨h * 256 + d, by omega⟩)
      = normed (fun y => val_main_v87 x0 x1 x2 x3 x4 x5 x6 (ix3 R h y)) (x7 (ix2 0 d)) d := by
  unfold normed
  pointwise [val_main_v105, val_main_v104, val_main_v103, val_main_v102, val_main_v101, val_main_v100, val_main_v99, val_main_v98, val_main_v97, val_main_v96,
   val_main_v95, val_main_v94, val_main_v93, val_main_v92, val_main_v91, val_main_v90, val_main_v89, val_main_v88, val_main_cst_19, val_main_cst_20,
   val_main_cst_21, val_main_cst_22]

theorem ref_lam (x3 x4 x5 x6 : Lam) : val_main_v19 x3 x4 x5 x6 ix0
    = lamOf (fun y => x3 (ix2 0 y)) (fun y => x4 (ix2 0 y)) (fun y => x5 (ix2 0 y)) (fun y => x6 (ix2 0 y)) := by
  unfold lamOf
  pointwise [val_main_v19, val_main_v18, val_main_v17, val_main_v16, val_main_v15, val_main_v14, val_main_v13, val_main_v12, val_main_v11, val_main_v10, val_main_v9, val_main_v8, val_main_cst_2,
   val_main_cst_1, val_main_cst_0]

end Cert.Attn
-- ==== Proof.Table.lean ====
/-
  The reference's bias and its scores, at an index.
-/
module

public import proofs.«01_k».proof.Proof.Refer
public import proofs.«01_k».proof.Proof.Words

@[expose] public section

set_option maxRecDepth 16384

noncomputable section

namespace Cert.Attn

open Idealize.ShloMosaic Cert.ReferenceIdeal Cert.ReferenceIdeal.Gen Cert.ReferenceIdeal.Read
open Idealize.ShloMosaic (ix0 ix1 ix2 ix3 ix4)

theorem ref_bucket (t : Fin 16384) : val_main_v38 (F := Ideal) (ix1 t) = bucket t := by
  unfold bucket logWord
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_c_8, val_main_c_7, val_main_c_6, val_main_cst_5, val_main_cst_4, val_main_cst_3, val_main_c]

theorem ref_row (t : Fin 16384) : val_main_v44 (F := Ideal) (ix2 t 0) = lookup t := by
  have h : val_main_v44 (F := Ideal) (ix2 t 0) = Scalar.select (IntOp.cmpi CmpIPredicate.slt (val_main_v38 (F := Ideal) (ix1 t)) 0#32)
      (IntOp.addi (val_main_v38 (F := Ideal) (ix1 t)) 32#32) (val_main_v38 (F := Ideal) (ix1 t)) := by
    pointwise [val_main_v44, val_main_v43, val_main_v42, val_main_v41, val_main_c_10, val_main_v40, val_main_v39, val_main_c_9]
  rw [h, ref_bucket]
  rfl

theorem sub_word (R j : Fin 16384) (hj : j ≤ R) : IntOp.subi (BitVec.ofNat 32 R.val) (BitVec.ofNat 32 j.val) = BitVec.ofNat 32 (R.val - j.val) := by
  have := R.isLt
  have := j.isLt
  have hj' : j.val ≤ R.val := hj
  apply BitVec.eq_of_toNat_eq
  show (BitVec.ofNat 32 R.val - BitVec.ofNat 32 j.val).toNat = _
  rw [BitVec.toNat_sub]
  simp only [BitVec.toNat_ofNat]
  omega

theorem word_int (d : ℕ) (h : d < 16384) : (BitVec.ofNat 32 d).toInt = d := by
  rw [BitVec.toInt_eq_toNat_cond, BitVec.toNat_ofNat, Nat.mod_eq_of_lt (by omega), if_pos (by omega)]

theorem dist_word (d : ℕ) (h : d < 16384) :
    Scalar.select (IntOp.cmpi .slt (IntOp.maxsi (BitVec.ofNat 32 d) 0#32) 0#32)
      (IntOp.addi (IntOp.maxsi (BitVec.ofNat 32 d) 0#32) 16384#32) (IntOp.maxsi (BitVec.ofNat 32 d) 0#32) = BitVec.ofNat 32 d := by
  have h0 := word_int d h
  have hm : IntOp.maxsi (BitVec.ofNat 32 d) 0#32 = BitVec.ofNat 32 d := by
    unfold IntOp.maxsi
    by_cases hd : d = 0
    · subst hd; rfl
    · simp [BitVec.slt, h0]
      omega
  rw [hm]
  have hs : IntOp.cmpi CmpIPredicate.slt (BitVec.ofNat 32 d) 0#32 = 0#1 := by
    show BitVec.ofBool ((BitVec.ofNat 32 d).slt 0#32) = 0#1
    have : (BitVec.ofNat 32 d).slt 0#32 = false := by
      simp [BitVec.slt, h0]
    rw [this]; rfl
  rw [hs]
  rfl

theorem ref_place (x : S16x2x16384.Idx → EReal) (idx : S16384x16384x1.Idx → BitVec 32) (h : Fin 16) (μ : Fin 2) (R j : Fin 16384) (d : Fin 16384)
    (hd : min (idx (ix3 R j 0)).toInt.toNat (16384 - 1) = d.val) :
    Host.gather gather_S16x2x16384_S16384x16384x1_S16x2x16384x16384_01_2_n_n_2_2_1621 x idx (ix4 h μ R j) = x (ix3 h μ d) := by
  refine (place_at 16384 (by norm_num) _ x idx h μ R j).trans ?_
  exact congrArg (fun k => x (ix3 h μ k)) (Fin.ext hd)

theorem ref_pick (x2 : Table) (idx : S16384x1.Idx → BitVec 32) (h : Fin 16) (μ : Fin 2) (t : Fin 16384) (b : Fin 32)
    (hb : min (idx (ix2 t 0)).toInt.toNat 31 = b.val) :
    Host.gather gather_S32x16x2_S16384x1_S16384x16x2_12_0_n_n_0_1_1162 x2 idx (ix3 t h μ) = x2 (ix3 b h μ) := by
  refine (rows_at 16384 _ x2 idx t h μ).trans ?_
  exact congrArg (fun k => x2 (ix3 k h μ)) (Fin.ext hb)

theorem ref_gap (R j : Fin 16384) (hj : j ≤ R) : val_main_v62 (F := Ideal) (ix3 R j 0) = BitVec.ofNat 32 (R.val - j.val) := by
  have hR := R.isLt
  rw [ref_dist, ref_rel, sub_word R j hj, dist_word _ (by omega)]

theorem ref_bias (x2 : Table) (h : Fin 16) (μ : Fin 2) (R j : Fin 16384) (hj : j ≤ R) :
    val_main_v63 x2 (ix4 h μ R j) = x2 (ix3 (rowOf (R.val - j.val)) h μ) := by
  have hR := R.isLt
  have e1 : val_main_v63 x2 (ix4 h μ R j) = val_main_v46 x2 (ix3 h μ ⟨R.val - j.val, by omega⟩) :=
    ref_place _ _ h μ R j ⟨R.val - j.val, by omega⟩ (by
      rw [ref_gap R j hj, word_int _ (by omega)]
      show min (R.val - j.val) (16384 - 1) = R.val - j.val
      omega)
  have e2 : val_main_v45 x2 (ix3 ⟨R.val - j.val, by omega⟩ h μ) = x2 (ix3 (rowOf (R.val - j.val)) h μ) :=
    ref_pick x2 _ h μ ⟨R.val - j.val, by omega⟩ _ (by rw [ref_row]; rfl)
  rw [e1, ref_table, e2]

end Cert.Attn
-- ==== Proof.Soft.lean ====
/-
  The softmax of a row of scores, some of which may be masked out.
-/
module

public import Idealize.ShloMosaic.Lib.IdealHost

@[expose] public section

noncomputable section

namespace Cert.Attn

open Idealize.ShloMosaic

/-- A score `σ` stands for the weight `e`, up to the factor `C`. -/
def Scores (C : ℝ) (σ : EReal) (e : ℝ) : Prop := (σ = ⊥ ∧ e = 0) ∨ ∃ s : ℝ, σ = s ∧ e = C * Real.exp s

variable {N : ℕ}

theorem sum_real (f : Fin N → ℝ) : (∑ k, ((f k : ℝ) : EReal)) = ((∑ k, f k : ℝ) : EReal) := by
  induction N with
  | zero => simp
  | succ n ih => rw [Fin.sum_univ_succ, Fin.sum_univ_succ, ih, EReal.coe_add]

/-- The largest of real or masked scores, one of them real, is real. -/
theorem top_real (σ : Fin N → EReal) (h : ∀ j, σ j = ⊥ ∨ ∃ s : ℝ, σ j = s) (j₀ : Fin N) (h₀ : ∃ s : ℝ, σ j₀ = s) :
    ∃ M : ℝ, max ⊥ (Finset.univ.fold max ⊥ σ) = (M : EReal) := by
  have hf : Finset.univ.fold max ⊥ σ = Finset.univ.sup σ := rfl
  rw [hf, max_eq_right bot_le]
  have hne : (Finset.univ : Finset (Fin N)).Nonempty := ⟨j₀, Finset.mem_univ _⟩
  obtain ⟨j, _, hj⟩ := Finset.exists_mem_eq_sup Finset.univ hne σ
  rw [hj]
  rcases h j with hb | hs
  · exfalso
    obtain ⟨s, hs⟩ := h₀
    have hle : σ j₀ ≤ Finset.univ.sup σ := Finset.le_sup (Finset.mem_univ j₀)
    rw [hj, hb, hs] at hle
    exact absurd (le_bot_iff.mp hle) (EReal.coe_ne_bot s)
  · exact hs

theorem soft (σ : Fin N → EReal) (e : Fin N → ℝ) (C : ℝ) (hC : 0 < C) (h : ∀ j, Scores C (σ j) (e j)) (j₀ : Fin N) (h₀ : e j₀ ≠ 0) (j : Fin N) :
    Ideal.div (Ideal.exp (σ j - max ⊥ (Finset.univ.fold max ⊥ σ))) (∑ k, Ideal.exp (σ k - max ⊥ (Finset.univ.fold max ⊥ σ)))
      = ((e j / ∑ k, e k : ℝ) : EReal) := by
  obtain ⟨M, hM⟩ := top_real σ (fun j => (h j).imp And.left fun ⟨s, hs, _⟩ => ⟨s, hs⟩) j₀ (by
    rcases h j₀ with ⟨_, hb⟩ | ⟨s, hs, _⟩
    · exact absurd hb h₀
    · exact ⟨s, hs⟩)
  rw [hM]
  have hD : 0 < C * Real.exp M := mul_pos hC (Real.exp_pos M)
  have hx : ∀ k, Ideal.exp (σ k - (M : EReal)) = ((e k / (C * Real.exp M) : ℝ) : EReal) := by
    intro k
    rcases h k with ⟨hs, he⟩ | ⟨s, hs, he⟩
    · rw [hs, he, EReal.bot_sub, Ideal.exp_bot, zero_div]; rfl
    · rw [hs, he, ← EReal.coe_sub, Ideal.exp_coe, Real.exp_sub]
      congr 1
      field_simp
  have hnn : ∀ k, 0 ≤ e k := by
    intro k
    rcases h k with ⟨_, he⟩ | ⟨s, _, he⟩
    · exact he.ge
    · rw [he]; exact (mul_pos hC (Real.exp_pos s)).le
  have hL : 0 < ∑ k, e k := Finset.sum_pos' (fun k _ => hnn k) ⟨j₀, Finset.mem_univ _, lt_of_le_of_ne (hnn j₀) (Ne.symm h₀)⟩
  simp only [hx]
  rw [sum_real, ← Finset.sum_div]
  have hne : (∑ k, e k) / (C * Real.exp M) ≠ 0 := (div_pos hL hD).ne'
  rw [Ideal.div_coe hne, ← EReal.coe_mul]
  congr 1
  field_simp

end Cert.Attn
-- ==== Proof.Exact.lean ====
/-
  The attention over the reals, and the reference's as an instance of it.
-/
module

public import proofs.«01_k».proof.Proof.Table
public import proofs.«01_k».proof.Proof.Soft

@[expose] public section

set_option maxRecDepth 16384

noncomputable section

namespace Cert.Attn

open Idealize.ShloMosaic Cert.ReferenceIdeal Cert.ReferenceIdeal.Gen Cert.ReferenceIdeal.Read
open Idealize.ShloMosaic (ix0 ix1 ix2 ix3 ix4)

/-- The queries' column of half `μ` of head `h`. -/
def colQ (h : Fin 16) (μ : Fin 2) (y : Fin 128) : Fin 4096 := ⟨h.val * 256 + μ.val * 128 + y.val, by omega⟩
/-- The keys' column of half `μ` of head `h`. -/
def colK (h : Fin 16) (μ : Fin 2) (y : Fin 128) : Fin 8192 := ⟨h.val * 256 + μ.val * 128 + y.val, by omega⟩
/-- The values' column of head `h`. -/
def colV (h : Fin 16) (d : Fin 256) : Fin 8192 := ⟨4096 + (h.val * 256 + d.val), by omega⟩

section Reals
variable (q : Fin 16384 → Fin 4096 → ℝ) (kv : Fin 16384 → Fin 8192 → ℝ) (τ : Fin 32 → Fin 16 → Fin 2 → ℝ) (h : Fin 16) (μ : Fin 2) (R : Fin 16384)

/-- The product of query `R` and key `j`. -/
def dot (j : Fin 16384) : ℝ := ∑ y : Fin 128, q R (colQ h μ y) * kv j (colK h μ y)

/-- The score of key `j` before the bias, counted in halvings. -/
def expo (j : ℕ) : ℝ := if hj : j < 16384 then dot q kv h μ R ⟨j, hj⟩ / (Real.sqrt 128 * Real.log 2) else 0

/-- The bias of distance `t` beyond that of distance 128, counted in halvings. -/
def step (t : ℕ) : ℝ := (τ (rowOf t) h μ - τ (rowOf 128) h μ) / Real.log 2

/-- The weight of key `j`, up to a factor common to the row. -/
def weight (j : ℕ) : ℝ := if j ≤ R.val then (2 : ℝ) ^ (expo q kv h μ R j + step τ h μ (R.val - j)) else 0

/-- The value of key `j`. -/
def value (j : ℕ) (d : Fin 256) : ℝ := if hj : j < 16384 then kv ⟨j, hj⟩ (colV h d) else 0

theorem step_far (t : ℕ) (ht : 128 ≤ t) (ht' : t < 16384) : step τ h μ t = 0 := by
  unfold step
  rw [rowOf_far t ht ht', sub_self, zero_div]

theorem log_two_pos : 0 < Real.log 2 := Real.log_pos (by norm_num)

theorem weight_exp (j : Fin 16384) (hj : j ≤ R) :
    weight q kv τ h μ R j.val = Real.exp (-(τ (rowOf 128) h μ)) * Real.exp (dot q kv h μ R j / Real.sqrt 128 + τ (rowOf (R.val - j.val)) h μ) := by
  have hj' : j.val ≤ R.val := hj
  unfold weight expo step
  rw [if_pos hj', dif_pos j.isLt, ← Real.exp_add, Real.rpow_def_of_pos two_pos]
  congr 1
  have := log_two_pos
  have hs : 0 < Real.sqrt 128 := Real.sqrt_pos.mpr (by norm_num)
  field_simp
  ring

theorem weight_self : weight q kv τ h μ R R.val ≠ 0 := by
  unfold weight
  rw [if_pos le_rfl]
  exact (Real.rpow_pos_of_pos two_pos _).ne'

theorem weight_nonneg (j : ℕ) : 0 ≤ weight q kv τ h μ R j := by
  unfold weight
  split
  · exact (Real.rpow_pos_of_pos two_pos _).le
  · exact le_rfl

theorem weight_late (j : ℕ) (hj : R.val < j) : weight q kv τ h μ R j = 0 := by
  unfold weight
  rw [if_neg (by omega)]

/-- A sum over a row's keys stops at the row. -/
theorem row_sum (n : ℕ) (hn : R.val < n) (hn' : n ≤ 16384) (f : ℕ → ℝ) :
    ∑ j ∈ Finset.range n, weight q kv τ h μ R j * f j = ∑ j : Fin 16384, weight q kv τ h μ R j.val * f j.val := by
  rw [Fin.sum_univ_eq_sum_range (fun j => weight q kv τ h μ R j * f j) 16384]
  refine Finset.sum_subset (fun x hx => Finset.mem_range.mpr (lt_of_lt_of_le (Finset.mem_range.mp hx) hn')) fun x _ hx => ?_
  have : n ≤ x := by
    by_contra hc
    exact hx (Finset.mem_range.mpr (by omega))
  rw [weight_late q kv τ h μ R x (by omega), zero_mul]

theorem row_total (n : ℕ) (hn : R.val < n) (hn' : n ≤ 16384) :
    ∑ j ∈ Finset.range n, weight q kv τ h μ R j = ∑ j : Fin 16384, weight q kv τ h μ R j.val := by
  have := row_sum q kv τ h μ R n hn hn' fun _ => 1
  simpa using this

theorem row_total_ne : ∑ j : Fin 16384, weight q kv τ h μ R j.val ≠ 0 :=
  (Finset.sum_pos' (fun k _ => weight_nonneg q kv τ h μ R k.val)
    ⟨R, Finset.mem_univ _, lt_of_le_of_ne (weight_nonneg q kv τ h μ R R.val) (weight_self q kv τ h μ R).symm⟩).ne'

/-- The row's attention through half `μ`: its values averaged by its weights. -/
def average (d : Fin 256) : ℝ := (∑ j : Fin 16384, weight q kv τ h μ R j.val * value kv h j.val d) / ∑ j : Fin 16384, weight q kv τ h μ R j.val

end Reals

theorem lit_ninf : Ideal.ofBits .f32 0xFF800000#32 = ⊥ := by simp [Ideal.ofBits, Ideal.ieee]

theorem lit_128 : Ideal.ofBits .f32 0x43000000#32 = ((128 : ℝ) : EReal) := by
  simp [Ideal.ofBits, Ideal.ieee]
  rw [← EReal.coe_mul]
  norm_num

theorem lit_two : Ideal.ofBits .f32 0x40000000#32 = ((2 : ℝ) : EReal) := by
  simp [Ideal.ofBits, Ideal.ieee]
  rw [← EReal.coe_mul]
  norm_num

theorem sqrt_128 : Ideal.sqrt (Ideal.ofBits .f32 0x43000000#32) = ((Real.sqrt 128 : ℝ) : EReal) := by
  rw [lit_128, Ideal.sqrt_coe, if_neg (by norm_num)]

theorem log_lit_two : Ideal.log (Ideal.ofBits .f32 0x40000000#32) = ((Real.log 2 : ℝ) : EReal) := by
  rw [lit_two, Ideal.log_coe, if_neg (by norm_num)]

theorem div_real {a b : ℝ} (hb : b ≠ 0) : Ideal.div (a : EReal) (b : EReal) = ((a / b : ℝ) : EReal) := by
  rw [Ideal.div_coe hb, ← EReal.coe_mul, mul_one_div]

section Reference
variable (x0 : Q) (x1 : KV) (x2 : Table) (x3 x4 x5 x6 : Lam)
variable {q : Fin 16384 → Fin 4096 → ℝ} {kv : Fin 16384 → Fin 8192 → ℝ} {τ : Fin 32 → Fin 16 → Fin 2 → ℝ}
variable (hq : ∀ R y, x0 (ix2 R y) = ((q R y : ℝ) : EReal)) (hkv : ∀ R y, x1 (ix2 R y) = ((kv R y : ℝ) : EReal))
variable (hτ : ∀ b h μ, x2 (ix3 b h μ) = ((τ b h μ : ℝ) : EReal))

include hq hkv in
theorem ref_dot (h : Fin 16) (μ : Fin 2) (R j : Fin 16384) : val_main_v54 x0 x1 (ix4 h μ R j) = ((dot q kv h μ R j / Real.sqrt 128 : ℝ) : EReal) := by
  have hs : Real.sqrt 128 ≠ 0 := (Real.sqrt_pos.mpr (by norm_num)).ne'
  rw [ref_dots, sqrt_128]
  have e : ∀ y : Fin 128, Ideal.div (x0 (ix2 R ⟨h.val * 256 + μ.val * 128 + y.val, by omega⟩)) ((Real.sqrt 128 : ℝ) : EReal)
      * x1 (ix2 j ⟨h.val * 256 + μ.val * 128 + y.val, by omega⟩) = ((q R (colQ h μ y) / Real.sqrt 128 * kv j (colK h μ y) : ℝ) : EReal) := by
    intro y
    rw [hq, hkv, div_real hs, ← EReal.coe_mul]
    rfl
  rw [Finset.sum_congr rfl fun y _ => e y, sum_real]
  congr 1
  unfold dot
  rw [Finset.sum_div]
  exact Finset.sum_congr rfl fun y _ => by ring

include hq hkv hτ in
theorem ref_scores (h : Fin 16) (μ : Fin 2) (R j : Fin 16384) :
    Scores (Real.exp (-(τ (rowOf 128) h μ))) (val_main_v67 x0 x1 x2 (ix4 h μ R j)) (weight q kv τ h μ R j.val) := by
  have hR := R.isLt
  have hJ := j.isLt
  rw [ref_mask, ref_rel]
  by_cases hj : j ≤ R
  · right
    refine ⟨dot q kv h μ R j / Real.sqrt 128 + τ (rowOf (R.val - j.val)) h μ, ?_, weight_exp q kv τ h μ R j hj⟩
    have hc : IntOp.cmpi CmpIPredicate.sge (BitVec.ofNat 32 (R.val - j.val)) 0#32 = 1#1 := by
      show BitVec.ofBool ((0#32).sle (BitVec.ofNat 32 (R.val - j.val))) = 1#1
      have : (0#32).sle (BitVec.ofNat 32 (R.val - j.val)) = true := by
        simp [BitVec.sle, word_int (R.val - j.val) (by omega)]
      rw [this]; rfl
    rw [sub_word R j hj, hc, ref_dot x0 x1 hq hkv, ref_bias x2 h μ R j hj, hτ, ← EReal.coe_add]
    rfl
  · left
    have hlt : R.val < j.val := by
      by_contra hc
      exact hj (by show R.val ≥ j.val; omega)
    refine ⟨?_, weight_late q kv τ h μ R j.val hlt⟩
    have hw : (IntOp.subi (BitVec.ofNat 32 R.val) (BitVec.ofNat 32 j.val)).toInt = (R.val : ℤ) - j.val := by
      show (BitVec.ofNat 32 R.val - BitVec.ofNat 32 j.val).toInt = _
      rw [BitVec.toInt_eq_toNat_cond, BitVec.toNat_sub]
      simp only [BitVec.toNat_ofNat]
      split <;> omega
    have hc : IntOp.cmpi CmpIPredicate.sge (IntOp.subi (BitVec.ofNat 32 R.val) (BitVec.ofNat 32 j.val)) 0#32 = 0#1 := by
      show BitVec.ofBool ((0#32).sle (IntOp.subi (BitVec.ofNat 32 R.val) (BitVec.ofNat 32 j.val))) = 0#1
      have : (0#32).sle (IntOp.subi (BitVec.ofNat 32 R.val) (BitVec.ofNat 32 j.val)) = false := by
        simp [BitVec.sle, hw]
        omega
      rw [this]; rfl
    rw [hc, lit_ninf]
    rfl

include hq hkv hτ in
theorem ref_share (h : Fin 16) (μ : Fin 2) (R j : Fin 16384) : val_main_v78 x0 x1 x2 (ix4 h μ R j)
    = ((weight q kv τ h μ R j.val / ∑ k : Fin 16384, weight q kv τ h μ R k.val : ℝ) : EReal) := by
  rw [ref_weight, ref_total]
  simp only [ref_exp]
  rw [ref_top, lit_ninf]
  exact soft (fun k => val_main_v67 x0 x1 x2 (ix4 h μ R k)) (fun k => weight q kv τ h μ R k.val) _ (Real.exp_pos _)
    (fun k => ref_scores x0 x1 x2 hq hkv hτ h μ R k) R (weight_self q kv τ h μ R) j

include hq hkv hτ in
theorem ref_result (ρ : ℝ) (hρ : val_main_v19 x3 x4 x5 x6 ix0 = (ρ : EReal)) (h : Fin 16) (R : Fin 16384) (d : Fin 256) :
    val_main_v87 x0 x1 x2 x3 x4 x5 x6 (ix3 R h d) = ((average q kv τ h 0 R d - ρ * average q kv τ h 1 R d : ℝ) : EReal) := by
  rw [ref_att, ref_mix]
  have e : ∀ k : Fin 16384, val_main_v7 x1 (ix3 k h d) * val_main_v85 x0 x1 x2 x3 x4 x5 x6 (ix3 h R k)
      = ((value kv h k.val d * (weight q kv τ h 0 R k.val / (∑ k : Fin 16384, weight q kv τ h 0 R k.val)
        - ρ * (weight q kv τ h 1 R k.val / ∑ k : Fin 16384, weight q kv τ h 1 R k.val)) : ℝ) : EReal) := by
    intro k
    have hv : value kv h k.val d = kv k (colV h d) := dif_pos k.isLt
    rw [ref_vals, ref_diff, hkv, hρ, ref_share x0 x1 x2 hq hkv hτ, ref_share x0 x1 x2 hq hkv hτ, ← EReal.coe_mul, ← EReal.coe_sub, ← EReal.coe_mul, hv]
    rfl
  rw [Finset.sum_congr rfl fun k _ => e k, sum_real]
  refine congrArg Real.toEReal ?_
  unfold average
  rw [Finset.sum_div, Finset.sum_div, Finset.mul_sum, ← Finset.sum_sub_distrib]
  exact Finset.sum_congr rfl fun y _ => by ring

end Reference

end Cert.Attn
-- ==== Proof.Final.lean ====
/-
  The kernel's result: each row is the attention over the reals, normed.
-/
module

public import proofs.«01_k».proof.Proof.Blocks
public import proofs.«01_k».proof.Proof.Exact

@[expose] public section

set_option maxRecDepth 16384

noncomputable section

namespace Cert.Attn

open Idealize.ShloMosaic Cert.KernelIdeal Cert.KernelIdeal.Gen
open Idealize.ShloMosaic (ix0 ix1 ix2 ix3 ix4)

theorem step_real (τ : Fin 32 → Fin 16 → Fin 2 → ℝ) (x : S32x16x2.Idx → EReal) (hτ : ∀ b h μ, x (ix3 b h μ) = ((τ b h μ : ℝ) : EReal)) (h : Fin 16) (μ : Fin 2) (t : ℕ) :
    Ideal.div (x (ix3 (rowOf t) h μ) - x (ix3 (rowOf 128) h μ)) (Ideal.log (Ideal.ofBits FTy.f32 0x40000000#32)) = ((step τ h μ t : ℝ) : EReal) := by
  rw [hτ, hτ, log_lit_two, ← EReal.coe_sub, div_real log_two_pos.ne']
  rfl

theorem band_real (τ : Fin 32 → Fin 16 → Fin 2 → ℝ) (f g : S16x2x128x128.Idx → EReal) (h : Fin 16) (μ : Fin 2)
    (hf : ∀ p q : Fin 128, f (ix4 h μ p q) = ((step τ h μ ((p.val + 256 - q.val) % 256) : ℝ) : EReal))
    (hg : ∀ p q : Fin 128, g (ix4 h μ p q) = ((step τ h μ (p.val + 128 - q.val) : ℝ) : EReal)) (r : Fin 512) (k : Fin 1024) :
    bandBias f g h μ r k = if r.val + 512 < k.val then ⊥ else ((step τ h μ (r.val + 512 - k.val) : ℝ) : EReal) := by
  have hr := r.isLt
  have hk := k.isLt
  have far : 128 ≤ r.val + 512 - k.val → (0 : EReal) = ((step τ h μ (r.val + 512 - k.val) : ℝ) : EReal) := fun hd => by
    rw [step_far τ h μ _ hd (by omega)]; rfl
  unfold bandBias
  by_cases h1 : k.val < 512
  · rw [if_pos h1, if_neg (show ¬ r.val + 512 < k.val by omega)]
    by_cases h2 : r.val / 128 = 0 ∧ k.val / 128 = 3
    · rw [if_pos h2, hg]
      congr 2
      show r.val % 128 + 128 - k.val % 128 = _
      omega
    · rw [if_neg h2]
      exact far (by omega)
  · rw [if_neg h1]
    by_cases h2 : r.val < k.val - 512
    · rw [if_pos h2, if_pos (show r.val + 512 < k.val by omega)]
    · rw [if_neg h2, if_neg (show ¬ r.val + 512 < k.val by omega)]
      by_cases h3 : r.val / 128 = (k.val - 512) / 128
      · rw [if_pos h3, hf]
        congr 2
        show (r.val % 128 + 256 - (k.val - 512) % 128) % 256 = _
        omega
      · rw [if_neg h3]
        by_cases h4 : r.val / 128 = (k.val - 512) / 128 + 1
        · rw [if_pos h4, hg]
          congr 2
          show r.val % 128 + 128 - (k.val - 512) % 128 = _
          omega
        · rw [if_neg h4]
          exact far (by omega)

section Kernel
variable (m : (ℓ : Loc nD τ sig) → Buf (Elt Ideal) ℓ) (c : Dev nD)
variable {q : Fin 16384 → Fin 4096 → ℝ} {kv : Fin 16384 → Fin 8192 → ℝ} {tab : Fin 32 → Fin 16 → Fin 2 → ℝ}
variable (hq : ∀ R y, (m (c, Proc.devRef .tc main_arg0) : S16384x4096.Idx → EReal) (ix2 R y) = ((q R y : ℝ) : EReal))
variable (hkv : ∀ R y, (m (c, Proc.devRef .tc main_arg1) : S16384x8192.Idx → EReal) (ix2 R y) = ((kv R y : ℝ) : EReal))
variable (hτ : ∀ b h μ, (m (c, Proc.devRef .tc main_arg2) : S32x16x2.Idx → EReal) (ix3 b h μ) = ((tab b h μ : ℝ) : EReal))

include hq hkv hτ in
theorem row_in (t : Fin cfg0.N) (r : Fin 512) (μ : Fin 2) (R : Fin 16384) (h : Fin 16) (hR : R.val = (grid0.coords t 1).val * 512 + r.val)
    (hh : h.val = (grid0.coords t 0).val) :
    RowIn (grid0.coords t 1).val (iblk m c 0 t) (iblk m c 1 t) (iblk m c 2 t) (iblk m c 3 t) μ r (expo q kv h μ R) (weight q kv tab h μ R) (value kv h) where
  dots j := by
    have hs : Real.sqrt 128 * Real.log 2 ≠ 0 := mul_ne_zero (Real.sqrt_pos.mpr (by norm_num)).ne' log_two_pos.ne'
    have e : ∀ y : Fin 128, (fun a b : EReal => a * b) (iblk m c 0 t (ix2 r (⟨128 * μ.val + y.val, by omega⟩ : Fin 256))) (iblk m c 1 t (ix2 j (⟨128 * μ.val + y.val, by omega⟩ : Fin 256)))
        = ((q R (colQ h μ y) / (Real.sqrt 128 * Real.log 2) * kv j (colK h μ y) : ℝ) : EReal) := by
      intro y
      have ea := block0 m c t r (⟨128 * μ.val + y.val, by omega⟩ : Fin 256) R (colQ h μ y) hR
        (by show h.val * 256 + μ.val * 128 + y.val = _ * 256 + (128 * μ.val + y.val); omega)
      have eb := block1 m c t j (⟨128 * μ.val + y.val, by omega⟩ : Fin 256) (colK h μ y)
        (by show h.val * 256 + μ.val * 128 + y.val = _ * 256 + (128 * μ.val + y.val); omega)
      refine (congrArg₂ (fun a b : EReal => a * b) ea eb).trans ?_
      rw [V_q, V_kv, hq, hkv, sqrt_128, log_lit_two, ← EReal.coe_mul, div_real hs, ← EReal.coe_mul]
    refine (Finset.sum_congr rfl fun y _ => e y).trans ?_
    rw [sum_real]
    refine congrArg Real.toEReal ?_
    unfold expo dot
    rw [dif_pos j.isLt, Finset.sum_div]
    exact Finset.sum_congr rfl fun y _ => by ring
  vals j d := by
    refine (block2 m c t j d (colV h d) (by show 4096 + (h.val * 256 + d.val) = _; omega)).trans ?_
    rw [V_kv, hkv]
    refine congrArg Real.toEReal ?_
    unfold value
    rw [dif_pos j.isLt]
  far j hj := by
    have h1 := tile_lt (grid0.coords t)
    unfold weight
    rw [if_pos (by omega), step_far _ _ _ _ (by omega) (by omega), add_zero]
  near k hk := by
    have h1 := tile_lt (grid0.coords t)
    have hr := r.isLt
    have hk' := k.isLt
    obtain ⟨f, g, hf, hg, hb⟩ := V_bias m c _ rfl h μ r k
    have e := (block3 m c t μ r k h hh).trans (hb.trans (band_real tab f g h μ (fun p y => (hf h μ p y).trans (step_real tab _ hτ h μ _))
      (fun p y => (hg h μ p y).trans (step_real tab _ hτ h μ _)) r k))
    rw [e]
    by_cases hlate : r.val + 512 < k.val
    · left
      rw [if_pos hlate]
      exact ⟨EReal.add_bot _, weight_late _ _ _ _ _ _ _ (by omega)⟩
    · right
      rw [if_neg hlate]
      refine ⟨_, (EReal.coe_add _ _).symm, ?_⟩
      unfold weight
      rw [if_pos (by omega)]
      congr 3
      omega
  diag := by
    rw [show 512 * (grid0.coords t 1).val + r.val = R.val by omega]
    exact weight_self q kv tab h μ R

include hq hkv hτ in
theorem outs_at (ρ : ℝ) (hρ : lamOf (fun y => (m (c, Proc.devRef .tc main_arg3) : S1x128.Idx → EReal) (ix2 0 y)) (fun y => (m (c, Proc.devRef .tc main_arg4) : S1x128.Idx → EReal) (ix2 0 y))
      (fun y => (m (c, Proc.devRef .tc main_arg5) : S1x128.Idx → EReal) (ix2 0 y)) (fun y => (m (c, Proc.devRef .tc main_arg6) : S1x128.Idx → EReal) (ix2 0 y)) = (ρ : EReal))
    (t : Fin cfg0.N) (r : Fin 512) (d : Fin 256) (R : Fin 16384) (h : Fin 16) (hR : R.val = (grid0.coords t 1).val * 512 + r.val)
    (hh : h.val = (grid0.coords t 0).val) :
    outsAt m c t (ix2 r d) = normed (fun y => ((average q kv tab h 0 R y - ρ * average q kv tab h 1 R y : ℝ) : EReal))
      ((m (c, Proc.devRef .tc main_arg7) : S1x256.Idx → EReal) (ix2 0 d)) d := by
  have h1 := tile_lt (grid0.coords t)
  have hr := r.isLt
  have a0 := tail_at (row_in m c hq hkv hτ t r 0 R h hR hh)
  have a1 := tail_at (row_in m c hq hkv hτ t r 1 R h hR hh)
  unfold At at a0 a1
  have n1 : R.val < 512 * ((grid0.coords t 1).val + 1) := by omega
  have n2 : 512 * ((grid0.coords t 1).val + 1) ≤ 16384 := by omega
  rw [row_total q kv tab h 0 R _ n1 n2] at a0
  rw [row_total q kv tab h 1 R _ n1 n2] at a1
  have s0 := fun y => row_sum q kv tab h 0 R _ n1 n2 fun j => value kv h j y
  have s1 := fun y => row_sum q kv tab h 1 R _ n1 n2 fun j => value kv h j y
  simp only [s0] at a0
  simp only [s1] at a1
  have ld4 : ∀ (p : Fin 4) (y : Fin 128), View.ld (Val := Elt Ideal) (iblk m c 4 t) (Rect.unit ![0, 0] S4x128.size inb_S4x128_S4x128_0_0) (ix2 p y)
      = (V m c main_v8 : S4x128.Idx → EReal) (ix2 p y) := by
    intro p y
    refine Eq.trans ?_ (block4 m c t p y)
    refine congrArg (iblk m c 4 t) (funext fun a => Fin.ext ?_)
    match a with
    | ⟨0, _⟩ => show 0 + 1 * p.val = p.val; omega
    | ⟨1, _⟩ => show 0 + 1 * y.val = y.val; omega
  have hlam : k0_pay247 (F := Ideal) (View.ld (Val := Elt Ideal) (iblk m c 4 t) (Rect.unit ![0, 0] S4x128.size inb_S4x128_S4x128_0_0)) (ix2 0 0) = (ρ : EReal) := by
    refine (lam_at _ 0 0).trans (Eq.trans ?_ hρ)
    have f0 := funext fun y => (ld4 0 y).trans (V_lam0 m c y)
    have f1 := funext fun y => (ld4 1 y).trans (V_lam1 m c y)
    have f2 := funext fun y => (ld4 2 y).trans (V_lam2 m c y)
    have f3 := funext fun y => (ld4 3 y).trans (V_lam3 m c y)
    rw [f0, f1, f2, f3]
  have hgain : (View.ld (Val := Elt Ideal) (iblk m c 5 t) (Rect.unit ![0, 0] S1x256.size inb_S1x256_S1x256_0_0)) (ix2 0 d)
      = (m (c, Proc.devRef .tc main_arg7) : S1x256.Idx → EReal) (ix2 0 d) := by
    refine Eq.trans ?_ ((block5 m c t d).trans (V_gain m c d))
    refine congrArg (iblk m c 5 t) (funext fun a => Fin.ext ?_)
    match a with
    | ⟨0, _⟩ => rfl
    | ⟨1, _⟩ => show 0 + 1 * d.val = d.val; omega
  unfold outsAt outTile
  refine (finished a0 a1 (row_total_ne q kv tab h 0 R) (row_total_ne q kv tab h 1 R) _ ρ hlam _ d).trans ?_
  rw [hgain]
  rfl

end Kernel

end Cert.Attn
-- ==== Proof.Equal.lean ====
/-
  The value claim: from finite arguments the attention program with exact arithmetic and its reference end with equal
  results.
-/
module

public import proofs.«01_k».proof.Proof.Final
public import proofs.«01_k».proof.Proof.Frames
public import Idealize.ShloMosaic.Lib.ReduceAll

@[expose] public section

set_option maxRecDepth 16384

noncomputable section

namespace Cert.Attn

open Idealize.ShloMosaic Idealize.SL.Sem
open Idealize.ShloMosaic (ix0 ix1 ix2 ix3 ix4)

section Finite

theorem lit_inf : Ideal.ofBits .f32 0x7F800000#32 = ⊤ := by simp [Ideal.ofBits, Ideal.ieee]

/-- A value whose magnitude is below infinity is real. -/
theorem real_of_below (x : EReal) (h : Ideal.cmp .olt (max x (-x)) (Ideal.ofBits .f32 0x7F800000#32) = 1#1) :
    ∃ r : ℝ, x = (r : EReal) := by
  rw [lit_inf] at h
  induction x using EReal.rec with
  | bot => exact absurd h (by simp [Ideal.cmp])
  | top => exact absurd h (by simp [Ideal.cmp])
  | coe r => exact ⟨r, rfl⟩

instance : Subsingleton Cert.Pre_finite_args.S_.Idx := ⟨fun _ _ => funext fun a => a.elim0⟩

/-- An array all of whose magnitudes are below infinity holds reals. -/
theorem reals_of {s : Shape} {axes : List (Fin s.rank)} (x : FVec Ideal s .f32) (hb : Cert.Pre_finite_args.S_.BroadcastsInDim s (![] : Fin 0 → Fin s.rank))
    (hr : s.ReducesTo axes Cert.Pre_finite_args.S_) (hu : 0 < Cert.Pre_finite_args.S_.numel) (init : IVec Cert.Pre_finite_args.S_ 1)
    (e : Host.reduce IntOp.andi (cmpf (F := Ideal) .olt (Host.absf x) (broadcastInDim s ![] hb (constant (F := Ideal) Cert.Pre_finite_args.S_ .f32 0x7F800000#32))) init hr hu ix0 = 1#1)
    (i : s.Idx) : ∃ r : ℝ, (x i : EReal) = (r : EReal) :=
  real_of_below (x i) (Host.reduce_andi_all _ _ hr hu ix0 e i)

/-- What the precondition says: the first seven arguments hold reals. -/
theorem finite_of (a0 : FVec Ideal Cert.Pre_finite_args.S16384x4096 .f32) (a1 : FVec Ideal Cert.Pre_finite_args.S16384x8192 .f32)
    (a2 : FVec Ideal Cert.Pre_finite_args.S32x16x2 .f32) (a3 a4 a5 a6 : FVec Ideal Cert.Pre_finite_args.S1x128 .f32) (a7 : FVec Ideal Cert.Pre_finite_args.S1x256 .f32)
    (e : @Cert.Pre_finite_args.fn Cert.Pre_finite_args.Gen.facts Ideal _ a0 a1 a2 a3 a4 a5 a6 a7 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal))
    ∧ (∀ i, ∃ r : ℝ, (a3 i : EReal) = (r : EReal)) ∧ (∀ i, ∃ r : ℝ, (a4 i : EReal) = (r : EReal)) ∧ (∀ i, ∃ r : ℝ, (a5 i : EReal) = (r : EReal))
    ∧ (∀ i, ∃ r : ℝ, (a6 i : EReal) = (r : EReal)) := by
  have e1 := congrFun e ix0
  unfold Cert.Pre_finite_args.fn Cert.Pre_finite_args.fn_part1 at e1
  obtain ⟨e1, h6⟩ := IntOp.andi_eq_one.1 e1
  obtain ⟨e1, h5⟩ := IntOp.andi_eq_one.1 e1
  obtain ⟨e1, h4⟩ := IntOp.andi_eq_one.1 e1
  obtain ⟨e1, h3⟩ := IntOp.andi_eq_one.1 e1
  obtain ⟨e1, h2⟩ := IntOp.andi_eq_one.1 e1
  obtain ⟨h0, h1⟩ := IntOp.andi_eq_one.1 e1
  exact ⟨reals_of a0 _ _ _ _ h0, reals_of a1 _ _ _ _ h1, reals_of a2 _ _ _ _ h2, reals_of a3 _ _ _ _ h3, reals_of a4 _ _ _ _ h4, reals_of a5 _ _ _ _ h5,
    reals_of a6 _ _ _ _ h6⟩

theorem dot_row {a b : Fin 128 → EReal} (ha : ∀ y, ∃ r : ℝ, a y = (r : EReal)) (hb : ∀ y, ∃ r : ℝ, b y = (r : EReal)) :
    ∃ r : ℝ, (∑ y, a y * b y) = (r : EReal) := by
  choose f hf using ha
  choose g hg using hb
  refine ⟨∑ y, f y * g y, ?_⟩
  rw [← sum_real]
  exact Finset.sum_congr rfl fun y _ => by rw [hf, hg, EReal.coe_mul]

theorem lit_lam : ∃ r : ℝ, Ideal.ofBits .f32 0x3EB60549#32 = (r : EReal) := by
  simp [Ideal.ofBits, Ideal.ieee]
  rw [← EReal.coe_mul]
  exact ⟨_, rfl⟩

/-- The mixing factor of real rows is real. -/
theorem lam_real {a b c d : Fin 128 → EReal} (ha : ∀ y, ∃ r : ℝ, a y = (r : EReal)) (hb : ∀ y, ∃ r : ℝ, b y = (r : EReal))
    (hc : ∀ y, ∃ r : ℝ, c y = (r : EReal)) (hd : ∀ y, ∃ r : ℝ, d y = (r : EReal)) : ∃ ρ : ℝ, lamOf a b c d = (ρ : EReal) := by
  obtain ⟨u, hu⟩ := dot_row ha hb
  obtain ⟨v, hv⟩ := dot_row hc hd
  obtain ⟨w, hw⟩ := lit_lam
  refine ⟨Real.exp u - Real.exp v + w, ?_⟩
  unfold lamOf
  rw [hu, hv, hw, Ideal.exp_coe, Ideal.exp_coe, EReal.coe_add, EReal.coe_sub]

end Finite

section Same
open Cert.KernelIdeal Cert.KernelIdeal.Gen

/-- The reference's result of the arguments a memory holds. -/
def expected (m : (ℓ : Loc nD τ sig) → Buf (Elt Ideal) ℓ) (c : Dev nD) : S16384x4096.Idx → EReal :=
  Cert.ReferenceIdeal.Read.val_main_v105 (F := Ideal) (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) (m (c, Proc.devRef .tc main_arg6)) (m (c, Proc.devRef .tc main_arg7))

/-- From finite arguments the kernel's array is the reference's. -/
theorem same (m : (ℓ : Loc nD τ sig) → Buf (Elt Ideal) ℓ) (hm : Cert.Pre_KernelIdeal_finite_args (hPre_finite_args := Cert.Pre_finite_args.Gen.facts) m) (c : Dev nD) :
    (dats m 0 c).arrAt 6 cfg0.N = expected m c := by
  obtain ⟨f0, f1, f2, f3, f4, f5, f6⟩ := finite_of _ _ _ _ _ _ _ _ (hm c)
  obtain ⟨ρ, hρ⟩ := lam_real (fun y => f3 (ix2 0 y)) (fun y => f4 (ix2 0 y)) (fun y => f5 (ix2 0 y)) (fun y => f6 (ix2 0 y))
  choose q hq using fun (R : Fin 16384) (y : Fin 4096) => f0 (ix2 R y)
  choose kv hkv using fun (R : Fin 16384) (y : Fin 8192) => f1 (ix2 R y)
  choose tab htab using fun (b : Fin 32) (h : Fin 16) (μ : Fin 2) => f2 (ix3 b h μ)
  refine result_of m c (expected m c) fun t r d R Y hR hY => ?_
  have hh := head_lt (grid0.coords t)
  have hd := d.isLt
  refine (outs_at m c hq hkv htab ρ hρ t r d R ⟨(grid0.coords t 0).val, hh⟩ hR rfl).trans ?_
  have hY' : Y = ⟨(⟨(grid0.coords t 0).val, hh⟩ : Fin 16).val * 256 + d.val, by show (grid0.coords t 0).val * 256 + d.val < 4096; omega⟩ := Fin.ext hY
  rw [hY']
  unfold expected
  refine Eq.trans ?_ (ref_end _ _ _ _ _ _ _ _ ⟨(grid0.coords t 0).val, hh⟩ R d).symm
  refine congrArg (fun u => normed u _ d) (funext fun y => ?_)
  exact (ref_result _ _ _ _ _ _ _ hq hkv htab ρ ((ref_lam _ _ _ _).trans hρ) ⟨(grid0.coords t 0).val, hh⟩ R y).symm

/-- The kernel's run, with its result: the reference's array of the same arguments, and the arguments unchanged. -/
theorem run_value (m : (ℓ : Loc nD τ sig) → Buf (Elt Ideal) ℓ) (g : Dev nD → PrngReg)
    (hm : Cert.Pre_KernelIdeal_finite_args (hPre_finite_args := Cert.Pre_finite_args.Gen.facts) m) :
    θ_run defs (onTc (τ := τ) (main (F := Ideal))) ⟨m, fun _ => 0, g⟩ (fun r => ∀ c : Dev nD,
      r.2.mem ((c.tc : Thread nD τ).loc main_v97) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 6).trans (same m hm c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩) (run_main (F := Ideal) m g)

end Same

/-- The value claim. -/
theorem equal_values : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hm ha
  refine ⟨expected m, run_value m g hm, ?_⟩
  refine (θ_run Cert.ReferenceIdeal.defs _ _).mono (fun r h c => ⟨?_, (h c).2⟩) (Cert.ReferenceIdeal.Value.run (F := Ideal) m' g')
  obtain ⟨a0, a1, a2, a3, a4, a5, a6, a7⟩ := ha c
  refine (h c).1.trans ((Cert.ReferenceIdeal.Read.val_main_v105_eq (F := Ideal) (Idealize.ShloMosaic.StableHlo.launchContents m' c)).trans ?_)
  unfold expected
  refine Eq.trans (congr (congr (congr (congr (congr (congr (congr (congrArg _ a0) a1) a2) a3) a4) a5) a6) a7) ?_
  rfl

end Cert.Attn
-- ==== Proof.InProj.lean ====
/-
  The recurrence's input projection: the kernel's tiles of products are the product.
-/
module

public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Lib.IdealHost
public import Idealize.ShloMosaic.Lib.StableHlo.ReadAt
public import Idealize.ShloMosaic.Lib.Pipeline.ValueKit.Basic
public import proofs.«01_k».proof.Defs

@[expose] public section

set_option maxRecDepth 16384

noncomputable section

namespace Cert.InProj

open Idealize.ShloMosaic Idealize.SL.Sem Cert.Kernel2Ideal Cert.Kernel2Ideal.Gen
open Idealize.ShloMosaic (ix0 ix1 ix2 ix3 ix4)

/-- One entry of a tile: the row of the left block times the column of the right one. -/
theorem entry (x : Vec Ideal S1024x4096 .bf16) (w : Vec Ideal S1x4096x512 .f32) (r : Fin 1024) (d : Fin 512) :
    k0_pay1 (F := Ideal) x w (ix2 r d) = ∑ k : Fin 4096, (x (ix2 r k) : EReal) * (w (ix3 0 k d) : EReal) := by
  pointwise [k0_pay1]

/-- What a tile holds at the end, from the two blocks. -/
theorem tile (x : Vec Ideal S1024x4096 .bf16) (w : Vec Ideal S1x4096x512 .f32) : out0_2 (F := Ideal) x w = k0_pay1 (F := Ideal) x w := by
  unfold out0_2
  rw [View.canon_cons_unit_lit _ _ _ (by decide)]
  rw [View.ld_unit_lit _ x (by decide), View.ld_unit_lit _ w (by decide)]

/-- The product that both programs compute. -/
def product (a : S16384x4096.Idx → EReal) (w : S1x4096x16384.Idx → EReal) : S16384x16384.Idx → EReal := fun i =>
  ∑ k : Fin 4096, a (ix2 (i 0) k) * w (ix3 0 k (i 1))

section Tiles
variable (m : (ℓ : Loc nD τ sig) → Buf (Elt Ideal) ℓ) (c : Dev nD) (t : Fin cfg0.N)

theorem row_lt (i : grid0.Coords) : (i 0).val < 16 := (i 0).isLt
theorem col_lt (i : grid0.Coords) : (i 1).val < 32 := (i 1).isLt

theorem word_nat (a : ℕ) (h : a < 64) : (BitVec.ofNat 32 a).toNat = a := by
  rw [BitVec.toNat_ofNat, Nat.mod_eq_of_lt (by omega)]

theorem V_left (R : Fin 16384) (k : Fin 4096) :
    (V m c main_v0 : S16384x4096.Idx → EReal) (ix2 R k) = (m (c, Proc.devRef .tc main_arg0) : S16384x4096.Idx → EReal) (ix2 R k) := by
  unfold V
  after_reads_at

/-- The left block of a grid point: its rows of the stream. -/
theorem left (r : Fin 1024) (k : Fin 4096) (R : Fin 16384) (hR : R.val = (grid0.coords t 0).val * 1024 + r.val) :
    iblk m c 0 t (ix2 r k) = (m (c, Proc.devRef .tc main_arg0) : S16384x4096.Idx → EReal) (ix2 R k) := by
  have e0 : cc0_transform_0 (grid0.coords t) 0 = (grid0.coords t 0).val := word_nat _ (by have := row_lt (grid0.coords t); omega)
  refine Eq.trans ?_ (V_left m c R k)
  show V m c main_v0 (((cfg0.win 0).blk t).view.emb (ix2 r k)) = _
  refine congrArg (V m c main_v0) (funext fun a => Fin.ext ?_)
  match a with
  | ⟨0, _⟩ => show cc0_transform_0 (grid0.coords t) 0 * 1024 + 1 * r.val = R.val; rw [e0]; omega
  | ⟨1, _⟩ => show 0 * 4096 + 1 * k.val = k.val; omega

/-- The right block of a grid point: its columns of the weights. -/
theorem right (k : Fin 4096) (d : Fin 512) (Y : Fin 16384) (hY : Y.val = (grid0.coords t 1).val * 512 + d.val) :
    iblk m c 1 t (ix3 0 k d) = (m (c, Proc.devRef .tc main_arg1) : S1x4096x16384.Idx → EReal) (ix3 0 k Y) := by
  have e1 : cc0_transform_1 (grid0.coords t) 2 = (grid0.coords t 1).val := word_nat _ (by have := col_lt (grid0.coords t); omega)
  refine Eq.trans ?_ (congrFun (V_main_arg1 m c) (ix3 0 k Y))
  show V m c main_arg1 (((cfg0.win 1).blk t).view.emb (ix3 0 k d)) = _
  refine congrArg (V m c main_arg1) (funext fun a => Fin.ext ?_)
  match a with
  | ⟨0, _⟩ => rfl
  | ⟨1, _⟩ => show 0 * 4096 + 1 * k.val = k.val; omega
  | ⟨2, _⟩ => show cc0_transform_1 (grid0.coords t) 2 * 512 + 1 * d.val = Y.val; rw [e1]; omega

theorem place (r : Fin 1024) (d : Fin 512) (R Y : Fin 16384) (hR : R.val = (grid0.coords t 0).val * 1024 + r.val)
    (hY : Y.val = (grid0.coords t 1).val * 512 + d.val) : ((cfg0.win 2).blk t).view.emb (ix2 r d) = ix2 R Y := by
  have e0 : cc0_transform_2 (grid0.coords t) 0 = (grid0.coords t 0).val := word_nat _ (by have := row_lt (grid0.coords t); omega)
  have e1 : cc0_transform_2 (grid0.coords t) 1 = (grid0.coords t 1).val := word_nat _ (by have := col_lt (grid0.coords t); omega)
  refine funext fun a => Fin.ext ?_
  match a with
  | ⟨0, _⟩ => show cc0_transform_2 (grid0.coords t) 0 * 1024 + 1 * r.val = R.val; rw [e0]; omega
  | ⟨1, _⟩ => show cc0_transform_2 (grid0.coords t) 1 * 512 + 1 * d.val = Y.val; rw [e1]; omega

/-- The kernel's array at the end is the product. -/
theorem kernel_array : (dats m 0 c).arrAt 2 cfg0.N = product (m (c, Proc.devRef .tc main_arg0)) (m (c, Proc.devRef .tc main_arg1)) := by
  refine (dats m 0 c).arrAt_eq_of_cover 2 _ (fun t _ => ?_) fun i => ?_
  · have h0 := row_lt (grid0.coords t)
    have h1 := col_lt (grid0.coords t)
    refine (Cert.Kernel2Ideal.Value.flushed2 m c t).trans (funext fun x => ?_)
    show out0_2 (iblk m c 0 t) (iblk m c 1 t) x = product _ _ (((cfg0.win 2).blk t).view.emb x)
    obtain ⟨r, d, rfl⟩ : ∃ (r : Fin 1024) (d : Fin 512), x = ix2 r d := ⟨x 0, x 1, funext fun a => match a with | ⟨0, _⟩ => rfl | ⟨1, _⟩ => rfl⟩
    rw [place t r d ⟨(grid0.coords t 0).val * 1024 + r.val, by omega⟩ ⟨(grid0.coords t 1).val * 512 + d.val, by omega⟩ rfl rfl]
    refine (congrFun (tile (iblk m c 0 t) (iblk m c 1 t)) (ix2 r d)).trans ((entry _ _ r d).trans ?_)
    exact Finset.sum_congr rfl fun k _ => congrArg₂ (fun a b : EReal => a * b) (left m c t r k _ rfl) (right m c t k d _ rfl)
  · have hR : (i 0).val < 16384 := (i 0).isLt
    have hY : (i 1).val < 16384 := (i 1).isLt
    have key : ∀ t : Fin 512, (grid0.coords ((finCongr N_0).symm t) 0).val = t.val / 32 ∧ (grid0.coords ((finCongr N_0).symm t) 1).val = t.val % 32 := by decide +kernel
    obtain ⟨k0, k1⟩ := key ⟨(i 0).val / 1024 * 32 + (i 1).val / 512, by omega⟩
    refine ⟨(finCongr N_0).symm ⟨(i 0).val / 1024 * 32 + (i 1).val / 512, by omega⟩, flush0_2 _, ?_⟩
    have h := ((cfg0.win 2).blk ((finCongr N_0).symm ⟨(i 0).val / 1024 * 32 + (i 1).val / 512, by omega⟩)).view.emb_mem_set
      (ix2 (⟨(i 0).val % 1024, by omega⟩ : Fin 1024) (⟨(i 1).val % 512, by omega⟩ : Fin 512))
    have e := place ((finCongr N_0).symm ⟨(i 0).val / 1024 * 32 + (i 1).val / 512, by omega⟩) ⟨(i 0).val % 1024, by omega⟩ ⟨(i 1).val % 512, by omega⟩ ⟨(i 0).val, hR⟩ ⟨(i 1).val, hY⟩
      (by rw [k0]; show (i 0).val = ((i 0).val / 1024 * 32 + (i 1).val / 512) / 32 * 1024 + (i 0).val % 1024; omega)
      (by rw [k1]; show (i 1).val = ((i 0).val / 1024 * 32 + (i 1).val / 512) % 32 * 512 + (i 1).val % 512; omega)
    have hi : i = ix2 (⟨(i 0).val, hR⟩ : Fin 16384) (⟨(i 1).val, hY⟩ : Fin 16384) := funext fun a => match a with | ⟨0, _⟩ => rfl | ⟨1, _⟩ => rfl
    rw [e.trans hi.symm] at h
    exact h

end Tiles

section Reference

/-- The reference's array is the product. -/
theorem reference_array (a : FVec Ideal S16384x4096 .f32) (w : FVec Ideal S1x4096x16384 .f32) :
    (truncf .bf16 (Host.dotGeneral Cert.Reference2Ideal.dot_S16384x4096_S4096x16384_S16384x16384_1_0_0_1_n_n none a (shapeCast _ w Cert.Reference2Ideal.Gen.shapeCasts_S1x4096x16384_S4096x16384)) Cert.Reference2Ideal.Gen.bitsLt_bf16_f32
      : S16384x16384.Idx → EReal) = product a w := by
  refine funext fun i => ?_
  obtain ⟨R, Y, rfl⟩ : ∃ (R Y : Fin 16384), i = ix2 R Y := ⟨i 0, i 1, funext fun a => match a with | ⟨0, _⟩ => rfl | ⟨1, _⟩ => rfl⟩
  show _ = ∑ k : Fin 4096, a (ix2 R k) * w (ix3 0 k Y)
  pointwise

end Reference

/-- The value claim. -/
theorem equal_values : Cert.algebraic_Kernel2Ideal_Reference2Ideal (hKernel2Ideal := Cert.Kernel2Ideal.Gen.facts)
    (hReference2Ideal := Cert.Reference2Ideal.Gen.facts) := by
  intro m g m' g' _ ha
  refine ⟨fun c => product (m (c, Proc.devRef .tc main_arg0)) (m (c, Proc.devRef .tc main_arg1)), ?_, ?_⟩
  · exact (θ_run defs _ _).mono (fun r h c => ⟨(h c).1.trans (kernel_array m c), (h c).2⟩) (Cert.Kernel2Ideal.Value.run_blocks (F := Ideal) m g)
  · refine (θ_run Cert.Reference2Ideal.defs _ _).mono (fun r h c => ⟨?_, (h c).2⟩) (Cert.Reference2Ideal.Value.run (F := Ideal) m' g')
    obtain ⟨a0, a1⟩ := ha c
    refine (h c).1.trans ((reference_array _ _).trans ?_)
    exact congr (congrArg product a0) a1

/-- The frame of the program on words. -/
theorem frame_words : Cert.quiescent_Kernel2 (hKernel2 := Cert.Kernel2.Gen.facts) := fun m ρ _ => Cert.Kernel2.Gen.frame m ρ

/-- The frame of the program with exact arithmetic. -/
theorem frame_exact : Cert.quiescent_Kernel2Ideal (hKernel2Ideal := Cert.Kernel2Ideal.Gen.facts) := fun m ρ _ => Cert.Kernel2Ideal.Gen.frame m ρ

/-- The frame of the reference. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.InProj
-- ==== Proof.KvProj.lean ====
/-
  The projection to keys and values: the kernel's tiles of products are the product.
-/
module

public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Lib.IdealHost
public import Idealize.ShloMosaic.Lib.StableHlo.ReadAt
public import Idealize.ShloMosaic.Lib.Pipeline.ValueKit.Basic
public import proofs.«01_k».proof.Defs

@[expose] public section

set_option maxRecDepth 16384

noncomputable section

namespace Cert.KvProj

open Idealize.ShloMosaic Idealize.SL.Sem Cert.Kernel3Ideal Cert.Kernel3Ideal.Gen
open Idealize.ShloMosaic (ix0 ix1 ix2 ix3 ix4)

/-- One entry of a tile: the row of the left block times the column of the right one. -/
theorem entry (x : Vec Ideal S1024x4096 .bf16) (w : Vec Ideal S4096x512 .f32) (r : Fin 1024) (d : Fin 512) :
    k0_pay1 (F := Ideal) x w (ix2 r d) = ∑ k : Fin 4096, (x (ix2 r k) : EReal) * (w (ix2 k d) : EReal) := by
  pointwise [k0_pay1]

/-- What a tile holds at the end, from the two blocks. -/
theorem tile (x : Vec Ideal S1024x4096 .bf16) (w : Vec Ideal S4096x512 .f32) : out0_2 (F := Ideal) x w = k0_pay1 (F := Ideal) x w := by
  unfold out0_2
  rw [View.canon_cons_unit_lit _ _ _ (by decide)]
  rw [View.ld_unit_lit _ x (by decide), View.ld_unit_lit _ w (by decide)]

/-- The product that both programs compute. -/
def product (a : S16384x4096.Idx → EReal) (w : S4096x8192.Idx → EReal) : S16384x8192.Idx → EReal := fun i =>
  ∑ k : Fin 4096, a (ix2 (i 0) k) * w (ix2 k (i 1))

section Tiles
variable (m : (ℓ : Loc nD τ sig) → Buf (Elt Ideal) ℓ) (c : Dev nD) (t : Fin cfg0.N)

theorem row_lt (i : grid0.Coords) : (i 0).val < 16 := (i 0).isLt
theorem col_lt (i : grid0.Coords) : (i 1).val < 16 := (i 1).isLt

theorem word_nat (a : ℕ) (h : a < 64) : (BitVec.ofNat 32 a).toNat = a := by
  rw [BitVec.toNat_ofNat, Nat.mod_eq_of_lt (by omega)]

theorem V_left (R : Fin 16384) (k : Fin 4096) :
    (V m c main_v0 : S16384x4096.Idx → EReal) (ix2 R k) = (m (c, Proc.devRef .tc main_arg0) : S16384x4096.Idx → EReal) (ix2 R k) := by
  unfold V
  after_reads_at

/-- The left block of a grid point: its rows of the stream. -/
theorem left (r : Fin 1024) (k : Fin 4096) (R : Fin 16384) (hR : R.val = (grid0.coords t 0).val * 1024 + r.val) :
    iblk m c 0 t (ix2 r k) = (m (c, Proc.devRef .tc main_arg0) : S16384x4096.Idx → EReal) (ix2 R k) := by
  have e0 : cc0_transform_0 (grid0.coords t) 0 = (grid0.coords t 0).val := word_nat _ (by have := row_lt (grid0.coords t); omega)
  refine Eq.trans ?_ (V_left m c R k)
  show V m c main_v0 (((cfg0.win 0).blk t).view.emb (ix2 r k)) = _
  refine congrArg (V m c main_v0) (funext fun a => Fin.ext ?_)
  match a with
  | ⟨0, _⟩ => show cc0_transform_0 (grid0.coords t) 0 * 1024 + 1 * r.val = R.val; rw [e0]; omega
  | ⟨1, _⟩ => show 0 * 4096 + 1 * k.val = k.val; omega

/-- The right block of a grid point: its columns of the weights. -/
theorem right (k : Fin 4096) (d : Fin 512) (Y : Fin 8192) (hY : Y.val = (grid0.coords t 1).val * 512 + d.val) :
    iblk m c 1 t (ix2 k d) = (m (c, Proc.devRef .tc main_arg1) : S4096x8192.Idx → EReal) (ix2 k Y) := by
  have e1 : cc0_transform_1 (grid0.coords t) 1 = (grid0.coords t 1).val := word_nat _ (by have := col_lt (grid0.coords t); omega)
  refine Eq.trans ?_ (congrFun (V_main_arg1 m c) (ix2 k Y))
  show V m c main_arg1 (((cfg0.win 1).blk t).view.emb (ix2 k d)) = _
  refine congrArg (V m c main_arg1) (funext fun a => Fin.ext ?_)
  match a with
  | ⟨0, _⟩ => show 0 * 4096 + 1 * k.val = k.val; omega
  | ⟨1, _⟩ => show cc0_transform_1 (grid0.coords t) 1 * 512 + 1 * d.val = Y.val; rw [e1]; omega

theorem place (r : Fin 1024) (d : Fin 512) (R : Fin 16384) (Y : Fin 8192) (hR : R.val = (grid0.coords t 0).val * 1024 + r.val)
    (hY : Y.val = (grid0.coords t 1).val * 512 + d.val) : ((cfg0.win 2).blk t).view.emb (ix2 r d) = ix2 R Y := by
  have e0 : cc0_transform_2 (grid0.coords t) 0 = (grid0.coords t 0).val := word_nat _ (by have := row_lt (grid0.coords t); omega)
  have e1 : cc0_transform_2 (grid0.coords t) 1 = (grid0.coords t 1).val := word_nat _ (by have := col_lt (grid0.coords t); omega)
  refine funext fun a => Fin.ext ?_
  match a with
  | ⟨0, _⟩ => show cc0_transform_2 (grid0.coords t) 0 * 1024 + 1 * r.val = R.val; rw [e0]; omega
  | ⟨1, _⟩ => show cc0_transform_2 (grid0.coords t) 1 * 512 + 1 * d.val = Y.val; rw [e1]; omega

/-- The kernel's array at the end is the product. -/
theorem kernel_array : (dats m 0 c).arrAt 2 cfg0.N = product (m (c, Proc.devRef .tc main_arg0)) (m (c, Proc.devRef .tc main_arg1)) := by
  refine (dats m 0 c).arrAt_eq_of_cover 2 _ (fun t _ => ?_) fun i => ?_
  · have h0 := row_lt (grid0.coords t)
    have h1 := col_lt (grid0.coords t)
    refine (Cert.Kernel3Ideal.Value.flushed2 m c t).trans (funext fun x => ?_)
    show out0_2 (iblk m c 0 t) (iblk m c 1 t) x = product _ _ (((cfg0.win 2).blk t).view.emb x)
    obtain ⟨r, d, rfl⟩ : ∃ (r : Fin 1024) (d : Fin 512), x = ix2 r d := ⟨x 0, x 1, funext fun a => match a with | ⟨0, _⟩ => rfl | ⟨1, _⟩ => rfl⟩
    rw [place t r d ⟨(grid0.coords t 0).val * 1024 + r.val, by omega⟩ ⟨(grid0.coords t 1).val * 512 + d.val, by omega⟩ rfl rfl]
    refine (congrFun (tile (iblk m c 0 t) (iblk m c 1 t)) (ix2 r d)).trans ((entry _ _ r d).trans ?_)
    exact Finset.sum_congr rfl fun k _ => congrArg₂ (fun a b : EReal => a * b) (left m c t r k _ rfl) (right m c t k d _ rfl)
  · have hR : (i 0).val < 16384 := (i 0).isLt
    have hY : (i 1).val < 8192 := (i 1).isLt
    have key : ∀ t : Fin 256, (grid0.coords ((finCongr N_0).symm t) 0).val = t.val / 16 ∧ (grid0.coords ((finCongr N_0).symm t) 1).val = t.val % 16 := by decide +kernel
    obtain ⟨k0, k1⟩ := key ⟨(i 0).val / 1024 * 16 + (i 1).val / 512, by omega⟩
    refine ⟨(finCongr N_0).symm ⟨(i 0).val / 1024 * 16 + (i 1).val / 512, by omega⟩, flush0_2 _, ?_⟩
    have h := ((cfg0.win 2).blk ((finCongr N_0).symm ⟨(i 0).val / 1024 * 16 + (i 1).val / 512, by omega⟩)).view.emb_mem_set
      (ix2 (⟨(i 0).val % 1024, by omega⟩ : Fin 1024) (⟨(i 1).val % 512, by omega⟩ : Fin 512))
    have e := place ((finCongr N_0).symm ⟨(i 0).val / 1024 * 16 + (i 1).val / 512, by omega⟩) ⟨(i 0).val % 1024, by omega⟩ ⟨(i 1).val % 512, by omega⟩ ⟨(i 0).val, hR⟩ ⟨(i 1).val, hY⟩
      (by rw [k0]; show (i 0).val = ((i 0).val / 1024 * 16 + (i 1).val / 512) / 16 * 1024 + (i 0).val % 1024; omega)
      (by rw [k1]; show (i 1).val = ((i 0).val / 1024 * 16 + (i 1).val / 512) % 16 * 512 + (i 1).val % 512; omega)
    have hi : i = ix2 (⟨(i 0).val, hR⟩ : Fin 16384) (⟨(i 1).val, hY⟩ : Fin 8192) := funext fun a => match a with | ⟨0, _⟩ => rfl | ⟨1, _⟩ => rfl
    rw [e.trans hi.symm] at h
    exact h

end Tiles

section Reference

/-- The reference's array is the product. -/
theorem reference_array (a : FVec Ideal S16384x4096 .f32) (w : FVec Ideal S4096x8192 .f32) :
    (truncf .bf16 (Host.dotGeneral Cert.Reference3Ideal.dot_S16384x4096_S4096x8192_S16384x8192_1_0_0_1_n_n none a w) Cert.Reference3Ideal.Gen.bitsLt_bf16_f32
      : S16384x8192.Idx → EReal) = product a w := by
  refine funext fun i => ?_
  obtain ⟨R, Y, rfl⟩ : ∃ (R : Fin 16384) (Y : Fin 8192), i = ix2 R Y := ⟨i 0, i 1, funext fun a => match a with | ⟨0, _⟩ => rfl | ⟨1, _⟩ => rfl⟩
  show _ = ∑ k : Fin 4096, a (ix2 R k) * w (ix2 k Y)
  pointwise

end Reference

/-- The value claim. -/
theorem equal_values : Cert.algebraic_Kernel3Ideal_Reference3Ideal (hKernel3Ideal := Cert.Kernel3Ideal.Gen.facts)
    (hReference3Ideal := Cert.Reference3Ideal.Gen.facts) := by
  intro m g m' g' _ ha
  refine ⟨fun c => product (m (c, Proc.devRef .tc main_arg0)) (m (c, Proc.devRef .tc main_arg1)), ?_, ?_⟩
  · exact (θ_run defs _ _).mono (fun r h c => ⟨(h c).1.trans (kernel_array m c), (h c).2⟩) (Cert.Kernel3Ideal.Value.run_blocks (F := Ideal) m g)
  · refine (θ_run Cert.Reference3Ideal.defs _ _).mono (fun r h c => ⟨?_, (h c).2⟩) (Cert.Reference3Ideal.Value.run (F := Ideal) m' g')
    obtain ⟨a0, a1⟩ := ha c
    refine (h c).1.trans ((reference_array _ _).trans ?_)
    exact congr (congrArg product a0) a1

/-- The frame of the program on words. -/
theorem frame_words : Cert.quiescent_Kernel3 (hKernel3 := Cert.Kernel3.Gen.facts) := fun m ρ _ => Cert.Kernel3.Gen.frame m ρ

/-- The frame of the program with exact arithmetic. -/
theorem frame_exact : Cert.quiescent_Kernel3Ideal (hKernel3Ideal := Cert.Kernel3Ideal.Gen.facts) := fun m ρ _ => Cert.Kernel3Ideal.Gen.frame m ρ

/-- The frame of the reference. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.KvProj
-- ==== Proof.OutProj.lean ====
/-
  The projections back to the stream: the kernel's tiles are those of the product added to the stream.
-/
module

public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.IdealHost
public import Idealize.ShloMosaic.Lib.StableHlo.ReadAt
public import Idealize.ShloMosaic.Lib.Pipeline.ValueKit.Basic
public import proofs.«01_k».proof.Defs

@[expose] public section

set_option maxRecDepth 16384

noncomputable section

namespace Cert.OutProj

open Idealize.ShloMosaic Idealize.SL.Sem Cert.Kernel4Ideal Cert.Kernel4Ideal.Gen
open Idealize.ShloMosaic (ix0 ix1 ix2 ix3 ix4)

/-- One entry of a tile: the row of the left block times the column of the right one, added to the stream's entry. -/
theorem entry (x : Vec Ideal S1024x4096 .bf16) (w : Vec Ideal S1x4096x512 .f32) (h : Vec Ideal S1024x512 .f32) (r : Fin 1024) (d : Fin 512) :
    k0_pay1 (F := Ideal) x w h (ix2 r d) = (∑ k : Fin 4096, (x (ix2 r k) : EReal) * (w (ix3 0 k d) : EReal)) + (h (ix2 r d) : EReal) := by
  pointwise [k0_pay1]

/-- What a tile holds at the end, from the three blocks. -/
theorem tile (x : Vec Ideal S1024x4096 .bf16) (w : Vec Ideal S1x4096x512 .f32) (h : Vec Ideal S1024x512 .f32) : out0_3 (F := Ideal) x w h = k0_pay1 (F := Ideal) x w h := by
  unfold out0_3
  rw [View.canon_cons_unit_lit _ _ _ (by decide)]
  rw [View.ld_unit_lit _ x (by decide), View.ld_unit_lit _ w (by decide), View.ld_unit_lit _ h (by decide)]

/-- The stream with the product added, which both programs compute. -/
def added (a : S16384x4096.Idx → EReal) (w : S1x4096x4096.Idx → EReal) (h : S16384x4096.Idx → EReal) : S16384x4096.Idx → EReal := fun i =>
  (∑ k : Fin 4096, a (ix2 (i 0) k) * w (ix3 0 k (i 1))) + h (ix2 (i 0) (i 1))

section Tiles
variable (m : (ℓ : Loc nD τ sig) → Buf (Elt Ideal) ℓ) (c : Dev nD) (t : Fin cfg0.N)

theorem row_lt (i : grid0.Coords) : (i 0).val < 16 := (i 0).isLt
theorem col_lt (i : grid0.Coords) : (i 1).val < 8 := (i 1).isLt

theorem word_nat (a : ℕ) (h : a < 64) : (BitVec.ofNat 32 a).toNat = a := by
  rw [BitVec.toNat_ofNat, Nat.mod_eq_of_lt (by omega)]

theorem V_left (R : Fin 16384) (k : Fin 4096) :
    (V m c main_v0 : S16384x4096.Idx → EReal) (ix2 R k) = (m (c, Proc.devRef .tc main_arg0) : S16384x4096.Idx → EReal) (ix2 R k) := by
  unfold V
  after_reads_at

/-- The left block of a grid point: its rows of the stream. -/
theorem left (r : Fin 1024) (k : Fin 4096) (R : Fin 16384) (hR : R.val = (grid0.coords t 0).val * 1024 + r.val) :
    iblk m c 0 t (ix2 r k) = (m (c, Proc.devRef .tc main_arg0) : S16384x4096.Idx → EReal) (ix2 R k) := by
  have e0 : cc0_transform_0 (grid0.coords t) 0 = (grid0.coords t 0).val := word_nat _ (by have := row_lt (grid0.coords t); omega)
  refine Eq.trans ?_ (V_left m c R k)
  show V m c main_v0 (((cfg0.win 0).blk t).view.emb (ix2 r k)) = _
  refine congrArg (V m c main_v0) (funext fun a => Fin.ext ?_)
  match a with
  | ⟨0, _⟩ => show cc0_transform_0 (grid0.coords t) 0 * 1024 + 1 * r.val = R.val; rw [e0]; omega
  | ⟨1, _⟩ => show 0 * 4096 + 1 * k.val = k.val; omega

/-- The right block of a grid point: its columns of the weights. -/
theorem right (k : Fin 4096) (d : Fin 512) (Y : Fin 4096) (hY : Y.val = (grid0.coords t 1).val * 512 + d.val) :
    iblk m c 1 t (ix3 0 k d) = (m (c, Proc.devRef .tc main_arg1) : S1x4096x4096.Idx → EReal) (ix3 0 k Y) := by
  have e1 : cc0_transform_1 (grid0.coords t) 2 = (grid0.coords t 1).val := word_nat _ (by have := col_lt (grid0.coords t); omega)
  refine Eq.trans ?_ (congrFun (V_main_arg1 m c) (ix3 0 k Y))
  show V m c main_arg1 (((cfg0.win 1).blk t).view.emb (ix3 0 k d)) = _
  refine congrArg (V m c main_arg1) (funext fun a => Fin.ext ?_)
  match a with
  | ⟨0, _⟩ => rfl
  | ⟨1, _⟩ => show 0 * 4096 + 1 * k.val = k.val; omega
  | ⟨2, _⟩ => show cc0_transform_1 (grid0.coords t) 2 * 512 + 1 * d.val = Y.val; rw [e1]; omega

/-- The third block of a grid point: its tile of the stream. -/
theorem stream (r : Fin 1024) (d : Fin 512) (R : Fin 16384) (Y : Fin 4096) (hR : R.val = (grid0.coords t 0).val * 1024 + r.val)
    (hY : Y.val = (grid0.coords t 1).val * 512 + d.val) :
    iblk m c 2 t (ix2 r d) = (m (c, Proc.devRef .tc main_arg2) : S16384x4096.Idx → EReal) (ix2 R Y) := by
  have e0 : cc0_transform_2 (grid0.coords t) 0 = (grid0.coords t 0).val := word_nat _ (by have := row_lt (grid0.coords t); omega)
  have e1 : cc0_transform_2 (grid0.coords t) 1 = (grid0.coords t 1).val := word_nat _ (by have := col_lt (grid0.coords t); omega)
  refine Eq.trans ?_ (congrFun (V_main_arg2 m c) (ix2 R Y))
  show V m c main_arg2 (((cfg0.win 2).blk t).view.emb (ix2 r d)) = _
  refine congrArg (V m c main_arg2) (funext fun a => Fin.ext ?_)
  match a with
  | ⟨0, _⟩ => show cc0_transform_2 (grid0.coords t) 0 * 1024 + 1 * r.val = R.val; rw [e0]; omega
  | ⟨1, _⟩ => show cc0_transform_2 (grid0.coords t) 1 * 512 + 1 * d.val = Y.val; rw [e1]; omega

theorem place (r : Fin 1024) (d : Fin 512) (R : Fin 16384) (Y : Fin 4096) (hR : R.val = (grid0.coords t 0).val * 1024 + r.val)
    (hY : Y.val = (grid0.coords t 1).val * 512 + d.val) : ((cfg0.win 3).blk t).view.emb (ix2 r d) = ix2 R Y := by
  have e0 : cc0_transform_3 (grid0.coords t) 0 = (grid0.coords t 0).val := word_nat _ (by have := row_lt (grid0.coords t); omega)
  have e1 : cc0_transform_3 (grid0.coords t) 1 = (grid0.coords t 1).val := word_nat _ (by have := col_lt (grid0.coords t); omega)
  refine funext fun a => Fin.ext ?_
  match a with
  | ⟨0, _⟩ => show cc0_transform_3 (grid0.coords t) 0 * 1024 + 1 * r.val = R.val; rw [e0]; omega
  | ⟨1, _⟩ => show cc0_transform_3 (grid0.coords t) 1 * 512 + 1 * d.val = Y.val; rw [e1]; omega

/-- The kernel's array at the end is the stream with the product added. -/
theorem kernel_array : (dats m 0 c).arrAt 3 cfg0.N = added (m (c, Proc.devRef .tc main_arg0)) (m (c, Proc.devRef .tc main_arg1)) (m (c, Proc.devRef .tc main_arg2)) := by
  refine (dats m 0 c).arrAt_eq_of_cover 3 _ (fun t _ => ?_) fun i => ?_
  · have h0 := row_lt (grid0.coords t)
    have h1 := col_lt (grid0.coords t)
    refine (Cert.Kernel4Ideal.Value.flushed3 m c t).trans (funext fun x => ?_)
    show out0_3 (iblk m c 0 t) (iblk m c 1 t) (iblk m c 2 t) x = added _ _ _ (((cfg0.win 3).blk t).view.emb x)
    obtain ⟨r, d, rfl⟩ : ∃ (r : Fin 1024) (d : Fin 512), x = ix2 r d := ⟨x 0, x 1, funext fun a => match a with | ⟨0, _⟩ => rfl | ⟨1, _⟩ => rfl⟩
    rw [place t r d ⟨(grid0.coords t 0).val * 1024 + r.val, by omega⟩ ⟨(grid0.coords t 1).val * 512 + d.val, by omega⟩ rfl rfl]
    refine (congrFun (tile (iblk m c 0 t) (iblk m c 1 t) (iblk m c 2 t)) (ix2 r d)).trans ((entry _ _ _ r d).trans ?_)
    refine congrArg₂ (fun a b : EReal => a + b) ?_ (stream m c t r d _ _ rfl rfl)
    exact Finset.sum_congr rfl fun k _ => congrArg₂ (fun a b : EReal => a * b) (left m c t r k _ rfl) (right m c t k d _ rfl)
  · have hR : (i 0).val < 16384 := (i 0).isLt
    have hY : (i 1).val < 4096 := (i 1).isLt
    have key : ∀ t : Fin 128, (grid0.coords ((finCongr N_0).symm t) 0).val = t.val / 8 ∧ (grid0.coords ((finCongr N_0).symm t) 1).val = t.val % 8 := by decide +kernel
    obtain ⟨k0, k1⟩ := key ⟨(i 0).val / 1024 * 8 + (i 1).val / 512, by omega⟩
    refine ⟨(finCongr N_0).symm ⟨(i 0).val / 1024 * 8 + (i 1).val / 512, by omega⟩, flush0_3 _, ?_⟩
    have h := ((cfg0.win 3).blk ((finCongr N_0).symm ⟨(i 0).val / 1024 * 8 + (i 1).val / 512, by omega⟩)).view.emb_mem_set
      (ix2 (⟨(i 0).val % 1024, by omega⟩ : Fin 1024) (⟨(i 1).val % 512, by omega⟩ : Fin 512))
    have e := place ((finCongr N_0).symm ⟨(i 0).val / 1024 * 8 + (i 1).val / 512, by omega⟩) ⟨(i 0).val % 1024, by omega⟩ ⟨(i 1).val % 512, by omega⟩ ⟨(i 0).val, hR⟩ ⟨(i 1).val, hY⟩
      (by rw [k0]; show (i 0).val = ((i 0).val / 1024 * 8 + (i 1).val / 512) / 8 * 1024 + (i 0).val % 1024; omega)
      (by rw [k1]; show (i 1).val = ((i 0).val / 1024 * 8 + (i 1).val / 512) % 8 * 512 + (i 1).val % 512; omega)
    have hi : i = ix2 (⟨(i 0).val, hR⟩ : Fin 16384) (⟨(i 1).val, hY⟩ : Fin 4096) := funext fun a => match a with | ⟨0, _⟩ => rfl | ⟨1, _⟩ => rfl
    rw [e.trans hi.symm] at h
    exact h

end Tiles

section Reference

/-- The reference's array is the stream with the product added. -/
theorem reference_array (a : FVec Ideal S16384x4096 .f32) (w : FVec Ideal S1x4096x4096 .f32) (h : FVec Ideal S16384x4096 .f32) :
    (addf h (Host.dotGeneral Cert.Reference4Ideal.dot_S16384x4096_S4096x4096_S16384x4096_1_0_0_1_n_n none a (shapeCast _ w Cert.Reference4Ideal.Gen.shapeCasts_S1x4096x4096_S4096x4096))
      : S16384x4096.Idx → EReal) = added a w h := by
  refine funext fun i => ?_
  obtain ⟨R, Y, rfl⟩ : ∃ (R : Fin 16384) (Y : Fin 4096), i = ix2 R Y := ⟨i 0, i 1, funext fun a => match a with | ⟨0, _⟩ => rfl | ⟨1, _⟩ => rfl⟩
  refine Eq.trans ?_ (add_comm (h (ix2 R Y) : EReal) (∑ k : Fin 4096, a (ix2 R k) * w (ix3 0 k Y)))
  pointwise

end Reference

/-- The value claim. -/
theorem equal_values : Cert.algebraic_Kernel4Ideal_Reference4Ideal (hKernel4Ideal := Cert.Kernel4Ideal.Gen.facts)
    (hReference4Ideal := Cert.Reference4Ideal.Gen.facts) := by
  intro m g m' g' _ ha
  refine ⟨fun c => added (m (c, Proc.devRef .tc main_arg0)) (m (c, Proc.devRef .tc main_arg1)) (m (c, Proc.devRef .tc main_arg2)), ?_, ?_⟩
  · exact (θ_run defs _ _).mono (fun r h c => ⟨(h c).1.trans (kernel_array m c), (h c).2⟩) (Cert.Kernel4Ideal.Value.run_blocks (F := Ideal) m g)
  · refine (θ_run Cert.Reference4Ideal.defs _ _).mono (fun r h c => ⟨?_, (h c).2⟩) (Cert.Reference4Ideal.Value.run (F := Ideal) m' g')
    obtain ⟨a0, a1, a2⟩ := ha c
    refine (h c).1.trans ((reference_array _ _ _).trans ?_)
    exact congr (congr (congrArg added a0) a1) a2

/-- The frame of the program on words. -/
theorem frame_words : Cert.quiescent_Kernel4 (hKernel4 := Cert.Kernel4.Gen.facts) := fun m ρ _ => Cert.Kernel4.Gen.frame m ρ

/-- The frame of the program with exact arithmetic. -/
theorem frame_exact : Cert.quiescent_Kernel4Ideal (hKernel4Ideal := Cert.Kernel4Ideal.Gen.facts) := fun m ρ _ => Cert.Kernel4Ideal.Gen.frame m ρ

/-- The frame of the reference. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.OutProj
-- ==== Proof.QProj.lean ====
/-
  The projection to queries: the kernel's tiles of products are the product.
-/
module

public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.IdealHost
public import Idealize.ShloMosaic.Lib.StableHlo.ReadAt
public import Idealize.ShloMosaic.Lib.Pipeline.ValueKit.Basic
public import proofs.«01_k».proof.Defs

@[expose] public section

set_option maxRecDepth 16384

noncomputable section

namespace Cert.QProj

open Idealize.ShloMosaic Idealize.SL.Sem Cert.Kernel5Ideal Cert.Kernel5Ideal.Gen
open Idealize.ShloMosaic (ix0 ix1 ix2 ix3 ix4)

/-- One entry of a tile: the row of the left block times the column of the right one. -/
theorem entry (x : Vec Ideal S1024x4096 .bf16) (w : Vec Ideal S1x4096x512 .f32) (r : Fin 1024) (d : Fin 512) :
    k0_pay1 (F := Ideal) x w (ix2 r d) = ∑ k : Fin 4096, (x (ix2 r k) : EReal) * (w (ix3 0 k d) : EReal) := by
  pointwise [k0_pay1]

/-- What a tile holds at the end, from the two blocks. -/
theorem tile (x : Vec Ideal S1024x4096 .bf16) (w : Vec Ideal S1x4096x512 .f32) : out0_2 (F := Ideal) x w = k0_pay1 (F := Ideal) x w := by
  unfold out0_2
  rw [View.canon_cons_unit_lit _ _ _ (by decide)]
  rw [View.ld_unit_lit _ x (by decide), View.ld_unit_lit _ w (by decide)]

/-- The product that both programs compute. -/
def product (a : S16384x4096.Idx → EReal) (w : S1x4096x4096.Idx → EReal) : S16384x4096.Idx → EReal := fun i =>
  ∑ k : Fin 4096, a (ix2 (i 0) k) * w (ix3 0 k (i 1))

section Tiles
variable (m : (ℓ : Loc nD τ sig) → Buf (Elt Ideal) ℓ) (c : Dev nD) (t : Fin cfg0.N)

theorem row_lt (i : grid0.Coords) : (i 0).val < 16 := (i 0).isLt
theorem col_lt (i : grid0.Coords) : (i 1).val < 8 := (i 1).isLt

theorem word_nat (a : ℕ) (h : a < 64) : (BitVec.ofNat 32 a).toNat = a := by
  rw [BitVec.toNat_ofNat, Nat.mod_eq_of_lt (by omega)]

theorem V_left (R : Fin 16384) (k : Fin 4096) :
    (V m c main_v0 : S16384x4096.Idx → EReal) (ix2 R k) = (m (c, Proc.devRef .tc main_arg0) : S16384x4096.Idx → EReal) (ix2 R k) := by
  unfold V
  after_reads_at

/-- The left block of a grid point: its rows of the stream. -/
theorem left (r : Fin 1024) (k : Fin 4096) (R : Fin 16384) (hR : R.val = (grid0.coords t 0).val * 1024 + r.val) :
    iblk m c 0 t (ix2 r k) = (m (c, Proc.devRef .tc main_arg0) : S16384x4096.Idx → EReal) (ix2 R k) := by
  have e0 : cc0_transform_0 (grid0.coords t) 0 = (grid0.coords t 0).val := word_nat _ (by have := row_lt (grid0.coords t); omega)
  refine Eq.trans ?_ (V_left m c R k)
  show V m c main_v0 (((cfg0.win 0).blk t).view.emb (ix2 r k)) = _
  refine congrArg (V m c main_v0) (funext fun a => Fin.ext ?_)
  match a with
  | ⟨0, _⟩ => show cc0_transform_0 (grid0.coords t) 0 * 1024 + 1 * r.val = R.val; rw [e0]; omega
  | ⟨1, _⟩ => show 0 * 4096 + 1 * k.val = k.val; omega

/-- The right block of a grid point: its columns of the weights. -/
theorem right (k : Fin 4096) (d : Fin 512) (Y : Fin 4096) (hY : Y.val = (grid0.coords t 1).val * 512 + d.val) :
    iblk m c 1 t (ix3 0 k d) = (m (c, Proc.devRef .tc main_arg1) : S1x4096x4096.Idx → EReal) (ix3 0 k Y) := by
  have e1 : cc0_transform_1 (grid0.coords t) 2 = (grid0.coords t 1).val := word_nat _ (by have := col_lt (grid0.coords t); omega)
  refine Eq.trans ?_ (congrFun (V_main_arg1 m c) (ix3 0 k Y))
  show V m c main_arg1 (((cfg0.win 1).blk t).view.emb (ix3 0 k d)) = _
  refine congrArg (V m c main_arg1) (funext fun a => Fin.ext ?_)
  match a with
  | ⟨0, _⟩ => rfl
  | ⟨1, _⟩ => show 0 * 4096 + 1 * k.val = k.val; omega
  | ⟨2, _⟩ => show cc0_transform_1 (grid0.coords t) 2 * 512 + 1 * d.val = Y.val; rw [e1]; omega

theorem place (r : Fin 1024) (d : Fin 512) (R : Fin 16384) (Y : Fin 4096) (hR : R.val = (grid0.coords t 0).val * 1024 + r.val)
    (hY : Y.val = (grid0.coords t 1).val * 512 + d.val) : ((cfg0.win 2).blk t).view.emb (ix2 r d) = ix2 R Y := by
  have e0 : cc0_transform_2 (grid0.coords t) 0 = (grid0.coords t 0).val := word_nat _ (by have := row_lt (grid0.coords t); omega)
  have e1 : cc0_transform_2 (grid0.coords t) 1 = (grid0.coords t 1).val := word_nat _ (by have := col_lt (grid0.coords t); omega)
  refine funext fun a => Fin.ext ?_
  match a with
  | ⟨0, _⟩ => show cc0_transform_2 (grid0.coords t) 0 * 1024 + 1 * r.val = R.val; rw [e0]; omega
  | ⟨1, _⟩ => show cc0_transform_2 (grid0.coords t) 1 * 512 + 1 * d.val = Y.val; rw [e1]; omega

/-- The kernel's array at the end is the product. -/
theorem kernel_array : (dats m 0 c).arrAt 2 cfg0.N = product (m (c, Proc.devRef .tc main_arg0)) (m (c, Proc.devRef .tc main_arg1)) := by
  refine (dats m 0 c).arrAt_eq_of_cover 2 _ (fun t _ => ?_) fun i => ?_
  · have h0 := row_lt (grid0.coords t)
    have h1 := col_lt (grid0.coords t)
    refine (Cert.Kernel5Ideal.Value.flushed2 m c t).trans (funext fun x => ?_)
    show out0_2 (iblk m c 0 t) (iblk m c 1 t) x = product _ _ (((cfg0.win 2).blk t).view.emb x)
    obtain ⟨r, d, rfl⟩ : ∃ (r : Fin 1024) (d : Fin 512), x = ix2 r d := ⟨x 0, x 1, funext fun a => match a with | ⟨0, _⟩ => rfl | ⟨1, _⟩ => rfl⟩
    rw [place t r d ⟨(grid0.coords t 0).val * 1024 + r.val, by omega⟩ ⟨(grid0.coords t 1).val * 512 + d.val, by omega⟩ rfl rfl]
    refine (congrFun (tile (iblk m c 0 t) (iblk m c 1 t)) (ix2 r d)).trans ((entry _ _ r d).trans ?_)
    exact Finset.sum_congr rfl fun k _ => congrArg₂ (fun a b : EReal => a * b) (left m c t r k _ rfl) (right m c t k d _ rfl)
  · have hR : (i 0).val < 16384 := (i 0).isLt
    have hY : (i 1).val < 4096 := (i 1).isLt
    have key : ∀ t : Fin 128, (grid0.coords ((finCongr N_0).symm t) 0).val = t.val / 8 ∧ (grid0.coords ((finCongr N_0).symm t) 1).val = t.val % 8 := by decide +kernel
    obtain ⟨k0, k1⟩ := key ⟨(i 0).val / 1024 * 8 + (i 1).val / 512, by omega⟩
    refine ⟨(finCongr N_0).symm ⟨(i 0).val / 1024 * 8 + (i 1).val / 512, by omega⟩, flush0_2 _, ?_⟩
    have h := ((cfg0.win 2).blk ((finCongr N_0).symm ⟨(i 0).val / 1024 * 8 + (i 1).val / 512, by omega⟩)).view.emb_mem_set
      (ix2 (⟨(i 0).val % 1024, by omega⟩ : Fin 1024) (⟨(i 1).val % 512, by omega⟩ : Fin 512))
    have e := place ((finCongr N_0).symm ⟨(i 0).val / 1024 * 8 + (i 1).val / 512, by omega⟩) ⟨(i 0).val % 1024, by omega⟩ ⟨(i 1).val % 512, by omega⟩ ⟨(i 0).val, hR⟩ ⟨(i 1).val, hY⟩
      (by rw [k0]; show (i 0).val = ((i 0).val / 1024 * 8 + (i 1).val / 512) / 8 * 1024 + (i 0).val % 1024; omega)
      (by rw [k1]; show (i 1).val = ((i 0).val / 1024 * 8 + (i 1).val / 512) % 8 * 512 + (i 1).val % 512; omega)
    have hi : i = ix2 (⟨(i 0).val, hR⟩ : Fin 16384) (⟨(i 1).val, hY⟩ : Fin 4096) := funext fun a => match a with | ⟨0, _⟩ => rfl | ⟨1, _⟩ => rfl
    rw [e.trans hi.symm] at h
    exact h

end Tiles

section Reference

/-- The reference's array is the product. -/
theorem reference_array (a : FVec Ideal S16384x4096 .f32) (w : FVec Ideal S1x4096x4096 .f32) :
    (Host.dotGeneral Cert.Reference5Ideal.dot_S16384x4096_S4096x4096_S16384x4096_1_0_0_1_n_n none a (shapeCast _ w Cert.Reference5Ideal.Gen.shapeCasts_S1x4096x4096_S4096x4096)
      : S16384x4096.Idx → EReal) = product a w := by
  refine funext fun i => ?_
  obtain ⟨R, Y, rfl⟩ : ∃ (R : Fin 16384) (Y : Fin 4096), i = ix2 R Y := ⟨i 0, i 1, funext fun a => match a with | ⟨0, _⟩ => rfl | ⟨1, _⟩ => rfl⟩
  show _ = ∑ k : Fin 4096, a (ix2 R k) * w (ix3 0 k Y)
  pointwise

end Reference

/-- The value claim. -/
theorem equal_values : Cert.algebraic_Kernel5Ideal_Reference5Ideal (hKernel5Ideal := Cert.Kernel5Ideal.Gen.facts)
    (hReference5Ideal := Cert.Reference5Ideal.Gen.facts) := by
  intro m g m' g' _ ha
  refine ⟨fun c => product (m (c, Proc.devRef .tc main_arg0)) (m (c, Proc.devRef .tc main_arg1)), ?_, ?_⟩
  · exact (θ_run defs _ _).mono (fun r h c => ⟨(h c).1.trans (kernel_array m c), (h c).2⟩) (Cert.Kernel5Ideal.Value.run_blocks (F := Ideal) m g)
  · refine (θ_run Cert.Reference5Ideal.defs _ _).mono (fun r h c => ⟨?_, (h c).2⟩) (Cert.Reference5Ideal.Value.run (F := Ideal) m' g')
    obtain ⟨a0, a1⟩ := ha c
    refine (h c).1.trans ((reference_array _ _).trans ?_)
    exact congr (congrArg product a0) a1

/-- The frame of the program on words. -/
theorem frame_words : Cert.quiescent_Kernel5 (hKernel5 := Cert.Kernel5.Gen.facts) := fun m ρ _ => Cert.Kernel5.Gen.frame m ρ

/-- The frame of the program with exact arithmetic. -/
theorem frame_exact : Cert.quiescent_Kernel5Ideal (hKernel5Ideal := Cert.Kernel5Ideal.Gen.facts) := fun m ρ _ => Cert.Kernel5Ideal.Gen.frame m ρ

/-- The frame of the reference. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.QProj
-- ==== Proof.lean ====
/-
  The claims of this directory, for the attention and for the four projection calls: the frames of the program on words
  and with exact arithmetic, the frame of its reference, the preservation claim, which is empty because the exact
  program is the same text, and the value claim: the exact program and the reference end with equal results, in the
  attention from finite arguments.
-/
module

public import proofs.«01_k».proof.Defs
public import proofs.«01_k».proof.Proof.Frames
public import proofs.«01_k».proof.Proof.Equal
public import proofs.«01_k».proof.Proof.InProj
public import proofs.«01_k».proof.Proof.KvProj
public import proofs.«01_k».proof.Proof.OutProj
public import proofs.«01_k».proof.Proof.QProj
public import Idealize.ShloMosaic.Init

@[expose] public section

noncomputable section

namespace Cert.Proof

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_args.Gen.facts,
  Cert.Attn.frame_words, Cert.Attn.frame_exact, Cert.Attn.frame_exact_finite, Cert.Attn.frame_reference,
  Cert.Attn.frame_reference_finite, Cert.InProj.frame_words, Cert.InProj.frame_exact, Cert.InProj.frame_reference,
  Cert.KvProj.frame_words, Cert.KvProj.frame_exact, Cert.KvProj.frame_reference, Cert.OutProj.frame_words,
  Cert.OutProj.frame_exact, Cert.OutProj.frame_reference, Cert.QProj.frame_words, Cert.QProj.frame_exact,
  Cert.QProj.frame_reference, trivial, Cert.Attn.equal_values, trivial, Cert.InProj.equal_values, trivial,
  Cert.KvProj.equal_values, trivial, Cert.OutProj.equal_values, trivial, Cert.QProj.equal_values⟩

end Cert.Proof

end
